-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x3072 : Shape := ⟨2, ![32768, 3072]⟩
abbrev S3x512 : Shape := ⟨2, ![3, 512]⟩
abbrev S512 : Shape := ⟨1, ![512]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S1152x128 : Shape := ⟨2, ![1152, 128]⟩
abbrev S1x128x128 : Shape := ⟨3, ![1, 128, 128]⟩
abbrev S8x128x128 : Shape := ⟨3, ![8, 128, 128]⟩
abbrev S1152x256 : Shape := ⟨2, ![1152, 256]⟩
abbrev S1x512 : Shape := ⟨2, ![1, 512]⟩
abbrev S128x4 : Shape := ⟨2, ![128, 4]⟩
abbrev S32768x1024 : Shape := ⟨2, ![32768, 1024]⟩
abbrev S512x3072 : Shape := ⟨2, ![512, 3072]⟩
abbrev S512x1024 : Shape := ⟨2, ![512, 1024]⟩
abbrev S1152x2048 : Shape := ⟨2, ![1152, 2048]⟩
abbrev S512x512 : Shape := ⟨2, ![512, 512]⟩
abbrev S128x512 : Shape := ⟨2, ![128, 512]⟩
abbrev S256x512 : Shape := ⟨2, ![256, 512]⟩
abbrev S256x2048 : Shape := ⟨2, ![256, 2048]⟩
abbrev S1x128 : Shape := ⟨2, ![1, 128]⟩
abbrev S128 : Shape := ⟨1, ![128]⟩
abbrev S128x1 : Shape := ⟨2, ![128, 1]⟩
abbrev S512x1 : Shape := ⟨2, ![512, 1]⟩

abbrev nBuf : Space → Nat
  | .hbm => 300
  | .vmem => 14
  | .smem => 0
  | _ => 0

abbrev hbmTy0_0 (i : Nat) : BufTy := match i % 128 with
  | 0 => ⟨S32768x3072, .f32⟩
  | 1 => ⟨S3x512, .f32⟩
  | 2 => ⟨S512, .f32⟩
  | 3 => ⟨S512, .f32⟩
  | 4 => ⟨S512, .f32⟩
  | 5 => ⟨S4x128x128, .f32⟩
  | 6 => ⟨S4x128, .f32⟩
  | 7 => ⟨S128x128, .i32⟩
  | 8 => ⟨S128x128, .i32⟩
  | 9 => ⟨S128x128, .i1⟩
  | 10 => ⟨S128x128, .i1⟩
  | 11 => ⟨S_, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i1⟩
  | 26 => ⟨S128x128, .i1⟩
  | 27 => ⟨S128x128, .i1⟩
  | 28 => ⟨S128x128, .i1⟩
  | 29 => ⟨S128x128, .i1⟩
  | 30 => ⟨S128x128, .i1⟩
  | 31 => ⟨S128x128, .i1⟩
  | 32 => ⟨S128x128, .i1⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S128x128, .i1⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i1⟩
  | 47 => ⟨S128x128, .i1⟩
  | 48 => ⟨S_, .i32⟩
  | 49 => ⟨S128x128, .i32⟩
  | 50 => ⟨S128x128, .i32⟩
  | 51 => ⟨S_, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S_, .i32⟩
  | 58 => ⟨S128x128, .i32⟩
  | 59 => ⟨S128x128, .i32⟩
  | 60 => ⟨S_, .i32⟩
  | 61 => ⟨S128x128, .i32⟩
  | 62 => ⟨S128x128, .i1⟩
  | 63 => ⟨S128x128, .i1⟩
  | 64 => ⟨S128x128, .i1⟩
  | 65 => ⟨S128x128, .i1⟩
  | 66 => ⟨S128x128, .i1⟩
  | 67 => ⟨S128x128, .i1⟩
  | 68 => ⟨S128x128, .i1⟩
  | 69 => ⟨S128x128, .i1⟩
  | 70 => ⟨S_, .i32⟩
  | 71 => ⟨S128x128, .i32⟩
  | 72 => ⟨S128x128, .i32⟩
  | 73 => ⟨S_, .i32⟩
  | 74 => ⟨S128x128, .i32⟩
  | 75 => ⟨S128x128, .i32⟩
  | 76 => ⟨S128x128, .i1⟩
  | 77 => ⟨S128x128, .i1⟩
  | 78 => ⟨S_, .i32⟩
  | 79 => ⟨S128x128, .i32⟩
  | 80 => ⟨S128x128, .i32⟩
  | 81 => ⟨S_, .i32⟩
  | 82 => ⟨S128x128, .i32⟩
  | 83 => ⟨S128x128, .i1⟩
  | 84 => ⟨S128x128, .i1⟩
  | 85 => ⟨S_, .i32⟩
  | 86 => ⟨S128x128, .i32⟩
  | 87 => ⟨S128x128, .i32⟩
  | 88 => ⟨S_, .i32⟩
  | 89 => ⟨S128x128, .i32⟩
  | 90 => ⟨S128x128, .i32⟩
  | 91 => ⟨S_, .i32⟩
  | 92 => ⟨S128x128, .i32⟩
  | 93 => ⟨S128x128, .i32⟩
  | 94 => ⟨S_, .i32⟩
  | 95 => ⟨S128x128, .i32⟩
  | 96 => ⟨S128x128, .i32⟩
  | 97 => ⟨S_, .i32⟩
  | 98 => ⟨S128x128, .i32⟩
  | 99 => ⟨S128x128, .i1⟩
  | 100 => ⟨S128x128, .i1⟩
  | 101 => ⟨S128x128, .i1⟩
  | 102 => ⟨S128x128, .i1⟩
  | 103 => ⟨S128x128, .i1⟩
  | 104 => ⟨S128x128, .i1⟩
  | 105 => ⟨S128x128, .i1⟩
  | 106 => ⟨S128x128, .i1⟩
  | 107 => ⟨S_, .i32⟩
  | 108 => ⟨S128x128, .i32⟩
  | 109 => ⟨S128x128, .i32⟩
  | 110 => ⟨S_, .i32⟩
  | 111 => ⟨S128x128, .i32⟩
  | 112 => ⟨S128x128, .i32⟩
  | 113 => ⟨S128x128, .i1⟩
  | 114 => ⟨S128x128, .i1⟩
  | 115 => ⟨S_, .i32⟩
  | 116 => ⟨S128x128, .i32⟩
  | 117 => ⟨S128x128, .i32⟩
  | 118 => ⟨S_, .i32⟩
  | 119 => ⟨S128x128, .i32⟩
  | 120 => ⟨S128x128, .i1⟩
  | 121 => ⟨S128x128, .i1⟩
  | 122 => ⟨S_, .i32⟩
  | 123 => ⟨S128x128, .i32⟩
  | 124 => ⟨S128x128, .i32⟩
  | 125 => ⟨S_, .i32⟩
  | 126 => ⟨S128x128, .i32⟩
  | 127 => ⟨S128x128, .i32⟩
  | _ => ⟨S32768x3072, .f32⟩

abbrev hbmTy0_1 (i : Nat) : BufTy := match i % 128 with
  | 0 => ⟨S_, .i32⟩
  | 1 => ⟨S128x128, .i32⟩
  | 2 => ⟨S128x128, .i32⟩
  | 3 => ⟨S_, .i32⟩
  | 4 => ⟨S128x128, .i32⟩
  | 5 => ⟨S128x128, .i32⟩
  | 6 => ⟨S_, .i32⟩
  | 7 => ⟨S128x128, .i32⟩
  | 8 => ⟨S128x128, .i1⟩
  | 9 => ⟨S128x128, .i1⟩
  | 10 => ⟨S128x128, .i1⟩
  | 11 => ⟨S128x128, .i1⟩
  | 12 => ⟨S128x128, .i1⟩
  | 13 => ⟨S128x128, .i1⟩
  | 14 => ⟨S128x128, .i1⟩
  | 15 => ⟨S128x128, .i1⟩
  | 16 => ⟨S_, .i32⟩
  | 17 => ⟨S128x128, .i32⟩
  | 18 => ⟨S128x128, .i32⟩
  | 19 => ⟨S_, .i32⟩
  | 20 => ⟨S128x128, .i32⟩
  | 21 => ⟨S128x128, .i32⟩
  | 22 => ⟨S128x128, .i1⟩
  | 23 => ⟨S128x128, .i1⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i1⟩
  | 30 => ⟨S128x128, .i1⟩
  | 31 => ⟨S_, .i32⟩
  | 32 => ⟨S128x128, .i32⟩
  | 33 => ⟨S128x128, .i32⟩
  | 34 => ⟨S_, .i32⟩
  | 35 => ⟨S128x128, .i32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i1⟩
  | 47 => ⟨S128x128, .i1⟩
  | 48 => ⟨S128x128, .i1⟩
  | 49 => ⟨S128x128, .i1⟩
  | 50 => ⟨S128x128, .i1⟩
  | 51 => ⟨S128x128, .i1⟩
  | 52 => ⟨S128x128, .i1⟩
  | 53 => ⟨S_, .i32⟩
  | 54 => ⟨S128x128, .i32⟩
  | 55 => ⟨S128x128, .i32⟩
  | 56 => ⟨S_, .i32⟩
  | 57 => ⟨S128x128, .i32⟩
  | 58 => ⟨S128x128, .i32⟩
  | 59 => ⟨S128x128, .i1⟩
  | 60 => ⟨S128x128, .i1⟩
  | 61 => ⟨S_, .i32⟩
  | 62 => ⟨S128x128, .i32⟩
  | 63 => ⟨S128x128, .i32⟩
  | 64 => ⟨S_, .i32⟩
  | 65 => ⟨S128x128, .i32⟩
  | 66 => ⟨S128x128, .i1⟩
  | 67 => ⟨S128x128, .i1⟩
  | 68 => ⟨S_, .i32⟩
  | 69 => ⟨S128x128, .i32⟩
  | 70 => ⟨S128x128, .i32⟩
  | 71 => ⟨S_, .i32⟩
  | 72 => ⟨S128x128, .i32⟩
  | 73 => ⟨S128x128, .i32⟩
  | 74 => ⟨S_, .i32⟩
  | 75 => ⟨S128x128, .i32⟩
  | 76 => ⟨S128x128, .i32⟩
  | 77 => ⟨S_, .i32⟩
  | 78 => ⟨S128x128, .i32⟩
  | 79 => ⟨S128x128, .i32⟩
  | 80 => ⟨S_, .i32⟩
  | 81 => ⟨S128x128, .i32⟩
  | 82 => ⟨S128x128, .i1⟩
  | 83 => ⟨S128x128, .i1⟩
  | 84 => ⟨S128x128, .i1⟩
  | 85 => ⟨S128x128, .i1⟩
  | 86 => ⟨S128x128, .i1⟩
  | 87 => ⟨S128x128, .i1⟩
  | 88 => ⟨S128x128, .i1⟩
  | 89 => ⟨S128x128, .i1⟩
  | 90 => ⟨S_, .i32⟩
  | 91 => ⟨S128x128, .i32⟩
  | 92 => ⟨S128x128, .i32⟩
  | 93 => ⟨S_, .i32⟩
  | 94 => ⟨S128x128, .i32⟩
  | 95 => ⟨S128x128, .i32⟩
  | 96 => ⟨S128x128, .i1⟩
  | 97 => ⟨S128x128, .i1⟩
  | 98 => ⟨S_, .i32⟩
  | 99 => ⟨S128x128, .i32⟩
  | 100 => ⟨S128x128, .i32⟩
  | 101 => ⟨S_, .i32⟩
  | 102 => ⟨S128x128, .i32⟩
  | 103 => ⟨S128x128, .i1⟩
  | 104 => ⟨S128x128, .i1⟩
  | 105 => ⟨S_, .i32⟩
  | 106 => ⟨S128x128, .i32⟩
  | 107 => ⟨S128x128, .i32⟩
  | 108 => ⟨S_, .i32⟩
  | 109 => ⟨S128x128, .i32⟩
  | 110 => ⟨S128x128, .i32⟩
  | 111 => ⟨S_, .i32⟩
  | 112 => ⟨S128x128, .i32⟩
  | 113 => ⟨S128x128, .i32⟩
  | 114 => ⟨S_, .i32⟩
  | 115 => ⟨S128x128, .i32⟩
  | 116 => ⟨S128x128, .i32⟩
  | 117 => ⟨S_, .i32⟩
  | 118 => ⟨S128x128, .i32⟩
  | 119 => ⟨S128x128, .i1⟩
  | 120 => ⟨S128x128, .i1⟩
  | 121 => ⟨S128x128, .i1⟩
  | 122 => ⟨S128x128, .i1⟩
  | 123 => ⟨S128x128, .i1⟩
  | 124 => ⟨S128x128, .i1⟩
  | 125 => ⟨S128x128, .i1⟩
  | 126 => ⟨S128x128, .i1⟩
  | 127 => ⟨S_, .i32⟩
  | _ => ⟨S32768x3072, .f32⟩

abbrev hbmTy0_2 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S128x128, .i1⟩
  | 6 => ⟨S128x128, .i1⟩
  | 7 => ⟨S_, .i32⟩
  | 8 => ⟨S128x128, .i32⟩
  | 9 => ⟨S128x128, .i32⟩
  | 10 => ⟨S_, .i32⟩
  | 11 => ⟨S128x128, .i32⟩
  | 12 => ⟨S128x128, .i1⟩
  | 13 => ⟨S128x128, .i1⟩
  | 14 => ⟨S128x128, .i1⟩
  | 15 => ⟨S1152x128, .i1⟩
  | 16 => ⟨S_, .f32⟩
  | 17 => ⟨S_, .f32⟩
  | 18 => ⟨S1152x128, .f32⟩
  | 19 => ⟨S1152x128, .f32⟩
  | 20 => ⟨S1152x128, .f32⟩
  | 21 => ⟨S1152x128, .f32⟩
  | 22 => ⟨S1x128x128, .i1⟩
  | 23 => ⟨S1x128x128, .i1⟩
  | 24 => ⟨S1x128x128, .i1⟩
  | 25 => ⟨S1x128x128, .i1⟩
  | 26 => ⟨S1x128x128, .i1⟩
  | 27 => ⟨S1x128x128, .i1⟩
  | 28 => ⟨S1x128x128, .i1⟩
  | 29 => ⟨S1x128x128, .i1⟩
  | 30 => ⟨S8x128x128, .i1⟩
  | 31 => ⟨S_, .f32⟩
  | 32 => ⟨S_, .f32⟩
  | 33 => ⟨S8x128x128, .f32⟩
  | 34 => ⟨S8x128x128, .f32⟩
  | 35 => ⟨S8x128x128, .f32⟩
  | 36 => ⟨S8x128x128, .f32⟩
  | 37 => ⟨S1152x256, .f32⟩
  | 38 => ⟨S1x512, .f32⟩
  | 39 => ⟨S1x512, .f32⟩
  | 40 => ⟨S1x512, .f32⟩
  | 41 => ⟨S128x4, .f32⟩
  | 42 => ⟨S1152x256, .bf16⟩
  | 43 => ⟨S32768x1024, .bf16⟩
  | _ => ⟨S32768x3072, .f32⟩

abbrev hbmTy (i : Nat) : BufTy := match i / 128 with
  | 0 => hbmTy0_0 i
  | 1 => hbmTy0_1 i
  | 2 => hbmTy0_2 i
  | _ => ⟨S32768x3072, .f32⟩

abbrev bufTy : (tb : Table) → Fin (tcTables nBuf tb) → BufTy
  | .hbm, ⟨i, _⟩ => hbmTy i
  | .local _ .vmem, ⟨0, _⟩ => ⟨S512x3072, .f32⟩
  | .local _ .vmem, ⟨1, _⟩ => ⟨S512x3072, .f32⟩
  | .local _ .vmem, ⟨2, _⟩ => ⟨S3x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S1152x256, .bf16⟩
  | .local _ .vmem, ⟨9, _⟩ => ⟨S8x128x128, .f32⟩
  | .local _ .vmem, ⟨10, _⟩ => ⟨S512x1024, .bf16⟩
  | .local _ .vmem, ⟨11, _⟩ => ⟨S512x1024, .bf16⟩
  | .local _ .vmem, ⟨12, _⟩ => ⟨S4x128x128, .f32⟩
  | .local _ .vmem, ⟨13, _⟩ => ⟨S1152x2048, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_v38 : Ref sig .tc := ⟨.hbm, 58, rfl⟩
abbrev main_v39 : Ref sig .tc := ⟨.hbm, 59, rfl⟩
abbrev main_c_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_c_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_15 : Ref sig .tc := ⟨.hbm, 78, rfl⟩
abbrev main_v55 : Ref sig .tc := ⟨.hbm, 79, rfl⟩
abbrev main_v56 : Ref sig .tc := ⟨.hbm, 80, rfl⟩
abbrev main_c_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_17 : Ref sig .tc := ⟨.hbm, 85, rfl⟩
abbrev main_v60 : Ref sig .tc := ⟨.hbm, 86, rfl⟩
abbrev main_v61 : Ref sig .tc := ⟨.hbm, 87, rfl⟩
abbrev main_c_18 : Ref sig .tc := ⟨.hbm, 88, rfl⟩
abbrev main_v62 : Ref sig .tc := ⟨.hbm, 89, rfl⟩
abbrev main_v63 : Ref sig .tc := ⟨.hbm, 90, rfl⟩
abbrev main_c_19 : Ref sig .tc := ⟨.hbm, 91, rfl⟩
abbrev main_v64 : Ref sig .tc := ⟨.hbm, 92, rfl⟩
abbrev main_v65 : Ref sig .tc := ⟨.hbm, 93, rfl⟩
abbrev main_c_20 : Ref sig .tc := ⟨.hbm, 94, rfl⟩
abbrev main_v66 : Ref sig .tc := ⟨.hbm, 95, rfl⟩
abbrev main_v67 : Ref sig .tc := ⟨.hbm, 96, rfl⟩
abbrev main_c_21 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_22 : Ref sig .tc := ⟨.hbm, 107, rfl⟩
abbrev main_v77 : Ref sig .tc := ⟨.hbm, 108, rfl⟩
abbrev main_v78 : Ref sig .tc := ⟨.hbm, 109, rfl⟩
abbrev main_c_23 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_24 : Ref sig .tc := ⟨.hbm, 115, rfl⟩
abbrev main_v83 : Ref sig .tc := ⟨.hbm, 116, rfl⟩
abbrev main_v84 : Ref sig .tc := ⟨.hbm, 117, rfl⟩
abbrev main_c_25 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_26 : Ref sig .tc := ⟨.hbm, 122, rfl⟩
abbrev main_v88 : Ref sig .tc := ⟨.hbm, 123, rfl⟩
abbrev main_v89 : Ref sig .tc := ⟨.hbm, 124, rfl⟩
abbrev main_c_27 : Ref sig .tc := ⟨.hbm, 125, rfl⟩
abbrev main_v90 : Ref sig .tc := ⟨.hbm, 126, rfl⟩
abbrev main_v91 : Ref sig .tc := ⟨.hbm, 127, rfl⟩
abbrev main_c_28 : Ref sig .tc := ⟨.hbm, 128, rfl⟩
abbrev main_v92 : Ref sig .tc := ⟨.hbm, 129, rfl⟩
abbrev main_v93 : Ref sig .tc := ⟨.hbm, 130, rfl⟩
abbrev main_c_29 : Ref sig .tc := ⟨.hbm, 131, rfl⟩
abbrev main_v94 : Ref sig .tc := ⟨.hbm, 132, rfl⟩
abbrev main_v95 : Ref sig .tc := ⟨.hbm, 133, rfl⟩
abbrev main_c_30 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_31 : Ref sig .tc := ⟨.hbm, 144, rfl⟩
abbrev main_v105 : Ref sig .tc := ⟨.hbm, 145, rfl⟩
abbrev main_v106 : Ref sig .tc := ⟨.hbm, 146, rfl⟩
abbrev main_c_32 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_33 : Ref sig .tc := ⟨.hbm, 152, rfl⟩
abbrev main_v111 : Ref sig .tc := ⟨.hbm, 153, rfl⟩
abbrev main_v112 : Ref sig .tc := ⟨.hbm, 154, rfl⟩
abbrev main_c_34 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_35 : Ref sig .tc := ⟨.hbm, 159, rfl⟩
abbrev main_v116 : Ref sig .tc := ⟨.hbm, 160, rfl⟩
abbrev main_v117 : Ref sig .tc := ⟨.hbm, 161, rfl⟩
abbrev main_c_36 : Ref sig .tc := ⟨.hbm, 162, rfl⟩
abbrev main_v118 : Ref sig .tc := ⟨.hbm, 163, rfl⟩
abbrev main_v119 : Ref sig .tc := ⟨.hbm, 164, rfl⟩
abbrev main_c_37 : Ref sig .tc := ⟨.hbm, 165, rfl⟩
abbrev main_v120 : Ref sig .tc := ⟨.hbm, 166, rfl⟩
abbrev main_v121 : Ref sig .tc := ⟨.hbm, 167, rfl⟩
abbrev main_c_38 : Ref sig .tc := ⟨.hbm, 168, rfl⟩
abbrev main_v122 : Ref sig .tc := ⟨.hbm, 169, rfl⟩
abbrev main_v123 : Ref sig .tc := ⟨.hbm, 170, rfl⟩
abbrev main_c_39 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_40 : Ref sig .tc := ⟨.hbm, 181, rfl⟩
abbrev main_v133 : Ref sig .tc := ⟨.hbm, 182, rfl⟩
abbrev main_v134 : Ref sig .tc := ⟨.hbm, 183, rfl⟩
abbrev main_c_41 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_42 : Ref sig .tc := ⟨.hbm, 189, rfl⟩
abbrev main_v139 : Ref sig .tc := ⟨.hbm, 190, rfl⟩
abbrev main_v140 : Ref sig .tc := ⟨.hbm, 191, rfl⟩
abbrev main_c_43 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_44 : Ref sig .tc := ⟨.hbm, 196, rfl⟩
abbrev main_v144 : Ref sig .tc := ⟨.hbm, 197, rfl⟩
abbrev main_v145 : Ref sig .tc := ⟨.hbm, 198, rfl⟩
abbrev main_c_45 : Ref sig .tc := ⟨.hbm, 199, rfl⟩
abbrev main_v146 : Ref sig .tc := ⟨.hbm, 200, rfl⟩
abbrev main_v147 : Ref sig .tc := ⟨.hbm, 201, rfl⟩
abbrev main_c_46 : Ref sig .tc := ⟨.hbm, 202, rfl⟩
abbrev main_v148 : Ref sig .tc := ⟨.hbm, 203, rfl⟩
abbrev main_v149 : Ref sig .tc := ⟨.hbm, 204, rfl⟩
abbrev main_c_47 : Ref sig .tc := ⟨.hbm, 205, rfl⟩
abbrev main_v150 : Ref sig .tc := ⟨.hbm, 206, rfl⟩
abbrev main_v151 : Ref sig .tc := ⟨.hbm, 207, rfl⟩
abbrev main_c_48 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_49 : Ref sig .tc := ⟨.hbm, 218, rfl⟩
abbrev main_v161 : Ref sig .tc := ⟨.hbm, 219, rfl⟩
abbrev main_v162 : Ref sig .tc := ⟨.hbm, 220, rfl⟩
abbrev main_c_50 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_51 : Ref sig .tc := ⟨.hbm, 226, rfl⟩
abbrev main_v167 : Ref sig .tc := ⟨.hbm, 227, rfl⟩
abbrev main_v168 : Ref sig .tc := ⟨.hbm, 228, rfl⟩
abbrev main_c_52 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_c_53 : Ref sig .tc := ⟨.hbm, 233, rfl⟩
abbrev main_v172 : Ref sig .tc := ⟨.hbm, 234, rfl⟩
abbrev main_v173 : Ref sig .tc := ⟨.hbm, 235, rfl⟩
abbrev main_c_54 : Ref sig .tc := ⟨.hbm, 236, rfl⟩
abbrev main_v174 : Ref sig .tc := ⟨.hbm, 237, rfl⟩
abbrev main_v175 : Ref sig .tc := ⟨.hbm, 238, rfl⟩
abbrev main_c_55 : Ref sig .tc := ⟨.hbm, 239, rfl⟩
abbrev main_v176 : Ref sig .tc := ⟨.hbm, 240, rfl⟩
abbrev main_v177 : Ref sig .tc := ⟨.hbm, 241, rfl⟩
abbrev main_c_56 : Ref sig .tc := ⟨.hbm, 242, rfl⟩
abbrev main_v178 : Ref sig .tc := ⟨.hbm, 243, rfl⟩
abbrev main_v179 : Ref sig .tc := ⟨.hbm, 244, rfl⟩
abbrev main_c_57 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_58 : Ref sig .tc := ⟨.hbm, 255, rfl⟩
abbrev main_v189 : Ref sig .tc := ⟨.hbm, 256, rfl⟩
abbrev main_v190 : Ref sig .tc := ⟨.hbm, 257, rfl⟩
abbrev main_c_59 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_c_60 : Ref sig .tc := ⟨.hbm, 263, rfl⟩
abbrev main_v195 : Ref sig .tc := ⟨.hbm, 264, rfl⟩
abbrev main_v196 : Ref sig .tc := ⟨.hbm, 265, rfl⟩
abbrev main_c_61 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_cst : Ref sig .tc := ⟨.hbm, 272, rfl⟩
abbrev main_cst_62 : Ref sig .tc := ⟨.hbm, 273, rfl⟩
abbrev main_call7_v0 : Ref sig .tc := ⟨.hbm, 274, rfl⟩
abbrev main_call7_v1 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_cst_63 : Ref sig .tc := ⟨.hbm, 287, rfl⟩
abbrev main_cst_64 : Ref sig .tc := ⟨.hbm, 288, rfl⟩
abbrev main_call8_v0 : Ref sig .tc := ⟨.hbm, 289, rfl⟩
abbrev main_call8_v1 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1152x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x3072 : Shape := ⟨2, ![32768, 3072]⟩
abbrev S3x512 : Shape := ⟨2, ![3, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S1x512 : Shape := ⟨2, ![1, 512]⟩
abbrev S16x2048x3072 : Shape := ⟨3, ![16, 2048, 3072]⟩
abbrev S16x2048x512 : Shape := ⟨3, ![16, 2048, 512]⟩
abbrev S1x1x512 : Shape := ⟨3, ![1, 1, 512]⟩
abbrev S16x4x128x128 : Shape := ⟨4, ![16, 4, 128, 128]⟩
abbrev S16x2048x4x128 : Shape := ⟨4, ![16, 2048, 4, 128]⟩
abbrev S2048x16x4x128 : Shape := ⟨4, ![2048, 16, 4, 128]⟩
abbrev S1x16x4x128 : Shape := ⟨4, ![1, 16, 4, 128]⟩
abbrev S16x4x128 : Shape := ⟨3, ![16, 4, 128]⟩
abbrev S16x4x128x1 : Shape := ⟨4, ![16, 4, 128, 1]⟩
abbrev S16x4x1x128 : Shape := ⟨4, ![16, 4, 1, 128]⟩
abbrev S16x2048x4 : Shape := ⟨3, ![16, 2048, 4]⟩
abbrev S16x2048x4x1 : Shape := ⟨4, ![16, 2048, 4, 1]⟩
abbrev S1x1x4x128 : Shape := ⟨4, ![1, 1, 4, 128]⟩
abbrev S16x2048 : Shape := ⟨2, ![16, 2048]⟩
abbrev S16x2048x1 : Shape := ⟨3, ![16, 2048, 1]⟩
abbrev S16x16x128x4x128 : Shape := ⟨5, ![16, 16, 128, 4, 128]⟩
abbrev S128x128 : Shape := ⟨2, ![128, 128]⟩
abbrev S1x128x128 : Shape := ⟨3, ![1, 128, 128]⟩
abbrev S4x16x16x128x128 : Shape := ⟨5, ![4, 16, 16, 128, 128]⟩
abbrev S128x4 : Shape := ⟨2, ![128, 4]⟩
abbrev S1x1x128x4x1 : Shape := ⟨5, ![1, 1, 128, 4, 1]⟩
abbrev S16x2048x1024 : Shape := ⟨3, ![16, 2048, 1024]⟩
abbrev S32768x1024 : Shape := ⟨2, ![32768, 1024]⟩

abbrev nBuf : Space → Nat
  | .hbm => 240
  | .vmem => 0
  | .smem => 0
  | _ => 0

abbrev hbmTy0_0 (i : Nat) : BufTy := match i % 128 with
  | 0 => ⟨S32768x3072, .f32⟩
  | 1 => ⟨S3x512, .f32⟩
  | 2 => ⟨S512, .f32⟩
  | 3 => ⟨S512, .f32⟩
  | 4 => ⟨S512, .f32⟩
  | 5 => ⟨S4x128x128, .f32⟩
  | 6 => ⟨S4x128, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S3x512, .f32⟩
  | 14 => ⟨S3x512, .f32⟩
  | 15 => ⟨S3x512, .f32⟩
  | 16 => ⟨S_, .f32⟩
  | 17 => ⟨S512, .f32⟩
  | 18 => ⟨S1x512, .f32⟩
  | 19 => ⟨S3x512, .f32⟩
  | 20 => ⟨S3x512, .f32⟩
  | 21 => ⟨S_, .f32⟩
  | 22 => ⟨S_, .f32⟩
  | 23 => ⟨S3x512, .f32⟩
  | 24 => ⟨S1x512, .f32⟩
  | 25 => ⟨S512, .f32⟩
  | 26 => ⟨S16x2048x3072, .f32⟩
  | 27 => ⟨S16x2048x512, .f32⟩
  | 28 => ⟨S16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S_, .f32⟩
  | 34 => ⟨S512, .f32⟩
  | 35 => ⟨S512, .f32⟩
  | 36 => ⟨S16x2048x512, .f32⟩
  | 37 => ⟨S16x2048x512, .f32⟩
  | 38 => ⟨S_, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S1x1x512, .f32⟩
  | 45 => ⟨S16x2048x512, .f32⟩
  | 46 => ⟨S16x2048x512, .f32⟩
  | 47 => ⟨S1x1x512, .f32⟩
  | 48 => ⟨S16x2048x512, .f32⟩
  | 49 => ⟨S16x2048x512, .f32⟩
  | 50 => ⟨S_, .f32⟩
  | 51 => ⟨S16x4x128x128, .f32⟩
  | 52 => ⟨S16x2048x512, .f32⟩
  | 53 => ⟨S16x2048x512, .f32⟩
  | 54 => ⟨S_, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S16x2048x512, .f32⟩
  | 61 => ⟨S16x2048x4x128, .f32⟩
  | 62 => ⟨S2048x16x4x128, .f32⟩
  | 63 => ⟨S16x2048x4x128, .f32⟩
  | 64 => ⟨S2048x16x4x128, .f32⟩
  | 65 => ⟨S_, .f32⟩
  | 66 => ⟨S16x2048x512, .f32⟩
  | 67 => ⟨S16x2048x512, .f32⟩
  | 68 => ⟨S16x2048x4x128, .f32⟩
  | 69 => ⟨S2048x16x4x128, .f32⟩
  | 70 => ⟨S16x2048x4x128, .f32⟩
  | 71 => ⟨S2048x16x4x128, .f32⟩
  | 72 => ⟨S_, .f32⟩
  | 73 => ⟨S2048x16x4x128, .f32⟩
  | 74 => ⟨S_, .i32⟩
  | 75 => ⟨S2048x16x4x128, .f32⟩
  | 76 => ⟨S2048x16x4x128, .f32⟩
  | 77 => ⟨S2048x16x4x128, .f32⟩
  | 78 => ⟨S2048x16x4x128, .f32⟩
  | 79 => ⟨S_, .i32⟩
  | 80 => ⟨S16x4x128x128, .f32⟩
  | 81 => ⟨S2048x16x4x128, .f32⟩
  | 82 => ⟨S_, .i32⟩
  | 83 => ⟨S_, .i1⟩
  | 84 => ⟨S_, .i32⟩
  | 85 => ⟨S_, .i32⟩
  | 86 => ⟨S_, .i32⟩
  | 87 => ⟨S1x16x4x128, .f32⟩
  | 88 => ⟨S16x4x128, .f32⟩
  | 89 => ⟨S_, .i32⟩
  | 90 => ⟨S_, .i32⟩
  | 91 => ⟨S_, .i32⟩
  | 92 => ⟨S1x16x4x128, .f32⟩
  | 93 => ⟨S16x4x128, .f32⟩
  | 94 => ⟨S_, .i32⟩
  | 95 => ⟨S_, .i32⟩
  | 96 => ⟨S_, .i32⟩
  | 97 => ⟨S1x16x4x128, .f32⟩
  | 98 => ⟨S16x4x128, .f32⟩
  | 99 => ⟨S_, .i32⟩
  | 100 => ⟨S_, .i32⟩
  | 101 => ⟨S_, .i32⟩
  | 102 => ⟨S1x16x4x128, .f32⟩
  | 103 => ⟨S16x4x128, .f32⟩
  | 104 => ⟨S16x4x128x1, .f32⟩
  | 105 => ⟨S16x4x128x128, .f32⟩
  | 106 => ⟨S16x4x128x128, .f32⟩
  | 107 => ⟨S16x4x128x1, .f32⟩
  | 108 => ⟨S16x4x1x128, .f32⟩
  | 109 => ⟨S16x4x128x128, .f32⟩
  | 110 => ⟨S16x4x128x128, .f32⟩
  | 111 => ⟨S16x4x128x128, .f32⟩
  | 112 => ⟨S16x4x128x128, .f32⟩
  | 113 => ⟨S16x4x128, .f32⟩
  | 114 => ⟨S1x16x4x128, .f32⟩
  | 115 => ⟨S_, .i32⟩
  | 116 => ⟨S_, .i32⟩
  | 117 => ⟨S_, .i32⟩
  | 118 => ⟨S2048x16x4x128, .f32⟩
  | 119 => ⟨S_, .i32⟩
  | 120 => ⟨S_, .i32⟩
  | 121 => ⟨S16x2048x4x128, .f32⟩
  | 122 => ⟨S4x128, .f32⟩
  | 123 => ⟨S16x2048x4x128, .f32⟩
  | 124 => ⟨S_, .f32⟩
  | 125 => ⟨S16x2048x4, .f32⟩
  | 126 => ⟨S16x2048x4x1, .f32⟩
  | 127 => ⟨S_, .f32⟩
  | _ => ⟨S32768x3072, .f32⟩

abbrev hbmTy0_1 (i : Nat) : BufTy := match i % 128 with
  | 0 => ⟨S16x2048x4x1, .f32⟩
  | 1 => ⟨S16x2048x4x1, .f32⟩
  | 2 => ⟨S_, .f32⟩
  | 3 => ⟨S16x2048x4x1, .f32⟩
  | 4 => ⟨S16x2048x4x1, .f32⟩
  | 5 => ⟨S16x2048x4x1, .f32⟩
  | 6 => ⟨S16x2048x4x128, .f32⟩
  | 7 => ⟨S16x2048x4x128, .f32⟩
  | 8 => ⟨S1x1x4x128, .f32⟩
  | 9 => ⟨S16x2048x4x128, .f32⟩
  | 10 => ⟨S16x2048x4x128, .f32⟩
  | 11 => ⟨S16x2048x3072, .f32⟩
  | 12 => ⟨S16x2048x512, .f32⟩
  | 13 => ⟨S16x2048x512, .f32⟩
  | 14 => ⟨S16x2048x512, .f32⟩
  | 15 => ⟨S16x2048x512, .f32⟩
  | 16 => ⟨S16x2048x512, .f32⟩
  | 17 => ⟨S16x2048x512, .f32⟩
  | 18 => ⟨S16x2048x512, .f32⟩
  | 19 => ⟨S16x2048x512, .f32⟩
  | 20 => ⟨S16x2048x512, .f32⟩
  | 21 => ⟨S_, .f32⟩
  | 22 => ⟨S16x2048x512, .f32⟩
  | 23 => ⟨S16x2048x512, .f32⟩
  | 24 => ⟨S_, .f32⟩
  | 25 => ⟨S16x2048x512, .f32⟩
  | 26 => ⟨S16x2048x512, .f32⟩
  | 27 => ⟨S16x2048x512, .f32⟩
  | 28 => ⟨S16x2048x512, .f32⟩
  | 29 => ⟨S16x2048x512, .f32⟩
  | 30 => ⟨S16x2048x512, .f32⟩
  | 31 => ⟨S_, .f32⟩
  | 32 => ⟨S16x2048x512, .f32⟩
  | 33 => ⟨S16x2048x512, .f32⟩
  | 34 => ⟨S16x2048x512, .f32⟩
  | 35 => ⟨S_, .f32⟩
  | 36 => ⟨S16x2048x512, .f32⟩
  | 37 => ⟨S16x2048x512, .f32⟩
  | 38 => ⟨S16x2048x512, .f32⟩
  | 39 => ⟨S_, .f32⟩
  | 40 => ⟨S16x2048x512, .f32⟩
  | 41 => ⟨S16x2048x512, .f32⟩
  | 42 => ⟨S_, .f32⟩
  | 43 => ⟨S16x2048x512, .f32⟩
  | 44 => ⟨S16x2048x512, .f32⟩
  | 45 => ⟨S16x2048x512, .f32⟩
  | 46 => ⟨S16x2048x512, .f32⟩
  | 47 => ⟨S16x2048x512, .f32⟩
  | 48 => ⟨S_, .f32⟩
  | 49 => ⟨S16x2048x512, .f32⟩
  | 50 => ⟨S16x2048x512, .f32⟩
  | 51 => ⟨S16x2048x512, .f32⟩
  | 52 => ⟨S_, .f32⟩
  | 53 => ⟨S16x2048x512, .f32⟩
  | 54 => ⟨S16x2048x512, .f32⟩
  | 55 => ⟨S16x2048x512, .f32⟩
  | 56 => ⟨S_, .f32⟩
  | 57 => ⟨S16x2048x512, .f32⟩
  | 58 => ⟨S16x2048x512, .f32⟩
  | 59 => ⟨S_, .f32⟩
  | 60 => ⟨S16x2048x512, .f32⟩
  | 61 => ⟨S16x2048x512, .f32⟩
  | 62 => ⟨S16x2048x512, .f32⟩
  | 63 => ⟨S_, .f32⟩
  | 64 => ⟨S16x2048, .f32⟩
  | 65 => ⟨S16x2048x1, .f32⟩
  | 66 => ⟨S_, .f32⟩
  | 67 => ⟨S16x2048x1, .f32⟩
  | 68 => ⟨S16x2048x1, .f32⟩
  | 69 => ⟨S16x2048x512, .f32⟩
  | 70 => ⟨S16x2048x512, .f32⟩
  | 71 => ⟨S16x2048x512, .f32⟩
  | 72 => ⟨S_, .f32⟩
  | 73 => ⟨S16x2048, .f32⟩
  | 74 => ⟨S16x2048x1, .f32⟩
  | 75 => ⟨S_, .f32⟩
  | 76 => ⟨S16x2048x1, .f32⟩
  | 77 => ⟨S16x2048x1, .f32⟩
  | 78 => ⟨S16x2048x512, .f32⟩
  | 79 => ⟨S16x2048x512, .f32⟩
  | 80 => ⟨S_, .f32⟩
  | 81 => ⟨S16x2048x1, .f32⟩
  | 82 => ⟨S16x2048x1, .f32⟩
  | 83 => ⟨S16x2048x1, .f32⟩
  | 84 => ⟨S16x2048x512, .f32⟩
  | 85 => ⟨S16x2048x512, .f32⟩
  | 86 => ⟨S1x1x512, .f32⟩
  | 87 => ⟨S16x2048x512, .f32⟩
  | 88 => ⟨S16x2048x512, .f32⟩
  | 89 => ⟨S1x1x512, .f32⟩
  | 90 => ⟨S16x2048x512, .f32⟩
  | 91 => ⟨S16x2048x512, .f32⟩
  | 92 => ⟨S16x16x128x4x128, .f32⟩
  | 93 => ⟨S128x128, .i32⟩
  | 94 => ⟨S128x128, .i32⟩
  | 95 => ⟨S128x128, .i1⟩
  | 96 => ⟨S1x128x128, .i1⟩
  | 97 => ⟨S_, .f32⟩
  | 98 => ⟨S4x128x128, .f32⟩
  | 99 => ⟨S4x128x128, .i1⟩
  | 100 => ⟨S4x128x128, .f32⟩
  | 101 => ⟨S4x16x16x128x128, .f32⟩
  | 102 => ⟨S16x16x128x4x128, .f32⟩
  | 103 => ⟨S128x4, .f32⟩
  | 104 => ⟨S1x1x128x4x1, .f32⟩
  | 105 => ⟨S16x16x128x4x128, .f32⟩
  | 106 => ⟨S16x16x128x4x128, .f32⟩
  | 107 => ⟨S16x2048x512, .f32⟩
  | 108 => ⟨S16x2048x512, .f32⟩
  | 109 => ⟨S16x2048x1024, .f32⟩
  | 110 => ⟨S32768x1024, .f32⟩
  | 111 => ⟨S32768x1024, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_c : Ref sig .tc := ⟨.hbm, 74, rfl⟩
abbrev main_v48_0 : Ref sig .tc := ⟨.hbm, 75, rfl⟩
abbrev main_v48_1 : Ref sig .tc := ⟨.hbm, 76, rfl⟩
abbrev main_v48_2 : Ref sig .tc := ⟨.hbm, 77, rfl⟩
abbrev main_v48_3 : Ref sig .tc := ⟨.hbm, 78, rfl⟩
abbrev main_v48_4 : Ref sig .tc := ⟨.hbm, 79, rfl⟩
abbrev main_v48_5 : Ref sig .tc := ⟨.hbm, 80, rfl⟩
abbrev main_v48_6 : Ref sig .tc := ⟨.hbm, 81, rfl⟩
abbrev main_while0c_c_31 : Ref sig .tc := ⟨.hbm, 82, rfl⟩
abbrev main_while0c_v142 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_c_1 : Ref sig .tc := ⟨.hbm, 86, rfl⟩
abbrev main_while0b_call2_v0 : Ref sig .tc := ⟨.hbm, 87, rfl⟩
abbrev main_while0b_v142 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_v0 : Ref sig .tc := ⟨.hbm, 92, rfl⟩
abbrev main_while0b_v143 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_v0 : Ref sig .tc := ⟨.hbm, 97, rfl⟩
abbrev main_while0b_v144 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_v0 : Ref sig .tc := ⟨.hbm, 102, rfl⟩
abbrev main_while0b_v145 : Ref sig .tc := ⟨.hbm, 103, rfl⟩
abbrev main_while0b_v146 : Ref sig .tc := ⟨.hbm, 104, rfl⟩
abbrev main_while0b_v147 : Ref sig .tc := ⟨.hbm, 105, rfl⟩
abbrev main_while0b_v148 : Ref sig .tc := ⟨.hbm, 106, rfl⟩
abbrev main_while0b_v149 : Ref sig .tc := ⟨.hbm, 107, rfl⟩
abbrev main_while0b_v150 : Ref sig .tc := ⟨.hbm, 108, rfl⟩
abbrev main_while0b_v151 : Ref sig .tc := ⟨.hbm, 109, rfl⟩
abbrev main_while0b_v152 : Ref sig .tc := ⟨.hbm, 110, rfl⟩
abbrev main_while0b_v153 : Ref sig .tc := ⟨.hbm, 111, rfl⟩
abbrev main_while0b_v154 : Ref sig .tc := ⟨.hbm, 112, rfl⟩
abbrev main_while0b_v155 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_v156 : Ref sig .tc := ⟨.hbm, 118, rfl⟩
abbrev main_while0b_c_31 : Ref sig .tc := ⟨.hbm, 119, rfl⟩
abbrev main_while0b_v157 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_8 : Ref sig .tc := ⟨.hbm, 124, rfl⟩
abbrev main_v52 : Ref sig .tc := ⟨.hbm, 125, rfl⟩
abbrev main_v53 : Ref sig .tc := ⟨.hbm, 126, rfl⟩
abbrev main_cst_9 : Ref sig .tc := ⟨.hbm, 127, rfl⟩
abbrev main_v54 : Ref sig .tc := ⟨.hbm, 128, rfl⟩
abbrev main_v55 : Ref sig .tc := ⟨.hbm, 129, rfl⟩
abbrev main_cst_10 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_cst_11 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_12 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_cst_13 : Ref sig .tc := ⟨.hbm, 167, rfl⟩
abbrev main_v82 : Ref sig .tc := ⟨.hbm, 168, rfl⟩
abbrev main_v83 : Ref sig .tc := ⟨.hbm, 169, rfl⟩
abbrev main_cst_14 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_15 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_cst_16 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_17 : Ref sig .tc := ⟨.hbm, 184, rfl⟩
abbrev main_v95 : Ref sig .tc := ⟨.hbm, 185, rfl⟩
abbrev main_v96 : Ref sig .tc := ⟨.hbm, 186, rfl⟩
abbrev main_cst_18 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_cst_19 : Ref sig .tc := ⟨.hbm, 191, rfl⟩
abbrev main_v100 : Ref sig .tc := ⟨.hbm, 192, rfl⟩
abbrev main_v101 : Ref sig .tc := ⟨.hbm, 193, rfl⟩
abbrev main_cst_20 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_21 : Ref sig .tc := ⟨.hbm, 200, rfl⟩
abbrev main_v107 : Ref sig .tc := ⟨.hbm, 201, rfl⟩
abbrev main_v108 : Ref sig .tc := ⟨.hbm, 202, rfl⟩
abbrev main_cst_22 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_cst_23 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_cst_24 : Ref sig .tc := ⟨.hbm, 225, rfl⟩
abbrev main_v129 : Ref sig .tc := ⟨.hbm, 226, rfl⟩
abbrev main_call8_v0 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16x16x128x1024 : Shape := ⟨4, ![16, 16, 128, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S16x2048x1024 : Shape := ⟨3, ![16, 2048, 1024]⟩
abbrev S1x16x64x1024 : Shape := ⟨4, ![1, 16, 64, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S8x1024x128 : Shape := ⟨3, ![8, 1024, 128]⟩
abbrev S1x1x32x1024 : Shape := ⟨4, ![1, 1, 32, 1024]⟩
abbrev S32x1024 : Shape := ⟨2, ![32, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S4096x1024 : Shape := ⟨2, ![4096, 1024]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩

abbrev nBuf : Space → Nat
  | .hbm => 15
  | .vmem => 13
  | .smem => 0
  | _ => 0

abbrev bufTy : (tb : Table) → Fin (tcTables nBuf tb) → BufTy
  | .hbm, ⟨0, _⟩ => ⟨S16x16x128x1024, .f32⟩
  | .hbm, ⟨1, _⟩ => ⟨S16x16x128x1024, .f32⟩
  | .hbm, ⟨2, _⟩ => ⟨S1024x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16x2048x1024, .f32⟩
  | .local _ .vmem, ⟨0, _⟩ => ⟨S1x16x64x1024, .f32⟩
  | .local _ .vmem, ⟨1, _⟩ => ⟨S1x16x64x1024, .f32⟩
  | .local _ .vmem, ⟨2, _⟩ => ⟨S1x16x64x1024, .f32⟩
  | .local _ .vmem, ⟨3, _⟩ => ⟨S1x16x64x1024, .f32⟩
  | .local _ .vmem, ⟨4, _⟩ => ⟨S1024x1024, .bf16⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S8x1024x128, .f32⟩
  | _, _ => ⟨S16x16x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16x16x128x1024 : Shape := ⟨4, ![16, 16, 128, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S1024 : Shape := ⟨1, ![1024]⟩
abbrev S16x128x16x1024 : Shape := ⟨4, ![16, 128, 16, 1024]⟩
abbrev S16x2048x1024 : Shape := ⟨3, ![16, 2048, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16x16x128x1024, .f32⟩
  | .hbm, ⟨1, _⟩ => ⟨S16x16x128x1024, .f32⟩
  | .hbm, ⟨2, _⟩ => ⟨S1024x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16x128x16x1024, .f32⟩
  | .hbm, ⟨9, _⟩ => ⟨S16x2048x1024, .f32⟩
  | .hbm, ⟨10, _⟩ => ⟨S16x128x16x1024, .f32⟩
  | .hbm, ⟨11, _⟩ => ⟨S16x2048x1024, .f32⟩
  | .hbm, ⟨12, _⟩ => ⟨S1x1024x4096, .f32⟩
  | .hbm, ⟨13, _⟩ => ⟨S1024x4096, .f32⟩
  | .hbm, ⟨14, _⟩ => ⟨S1x4096x1024, .f32⟩
  | .hbm, ⟨15, _⟩ => ⟨S4096x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S16x2048x4096, .f32⟩
  | .hbm, ⟨51, _⟩ => ⟨S_, .f32⟩
  | .hbm, ⟨52, _⟩ => ⟨S16x2048x4096, .f32⟩
  | .hbm, ⟨53, _⟩ => ⟨S16x2048x4096, .f32⟩
  | .hbm, ⟨54, _⟩ => ⟨S16x2048x4096, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1, .f32⟩
  | .hbm, ⟨67, _⟩ => ⟨S16x2048x1024, .f32⟩
  | .hbm, ⟨68, _⟩ => ⟨S16x2048x1024, .f32⟩
  | .hbm, ⟨69, _⟩ => ⟨S1x1x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | _, _ => ⟨S16x16x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S16x16x128x1024 : Shape := ⟨4, ![16, 16, 128, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x16x64x1024 : Shape := ⟨4, ![1, 16, 64, 1024]⟩
abbrev S8x1024x128 : Shape := ⟨3, ![8, 1024, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S4096x1024 : Shape := ⟨2, ![4096, 1024]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16x16x128x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x16x64x1024, .f32⟩
  | .local _ .vmem, ⟨11, _⟩ => ⟨S1x16x64x1024, .f32⟩
  | .local _ .vmem, ⟨12, _⟩ => ⟨S8x1024x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x128x16x1024 : Shape := ⟨4, ![16, 128, 16, 1024]⟩
abbrev S16x16x128x1024 : Shape := ⟨4, ![16, 16, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16x2048x1024, .f32⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x2048x4096, .f32⟩
  | .hbm, ⟨48, _⟩ => ⟨S_, .f32⟩
  | .hbm, ⟨49, _⟩ => ⟨S16x2048x4096, .f32⟩
  | .hbm, ⟨50, _⟩ => ⟨S16x2048x4096, .f32⟩
  | .hbm, ⟨51, _⟩ => ⟨S16x2048x4096, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x128x16x1024, .f32⟩
  | .hbm, ⟨71, _⟩ => ⟨S16x16x128x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S32768x3072 : Shape := ⟨2, ![32768, 3072]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S1x1024, .f32⟩
  | .hbm, ⟨6, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .f32⟩
  | .local _ .vmem, ⟨5, _⟩ => ⟨S1024x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x2048x1024 : Shape := ⟨3, ![16, 2048, 1024]⟩
abbrev S1024 : Shape := ⟨1, ![1024]⟩
abbrev S1024x3072 : Shape := ⟨2, ![1024, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3072, .f32⟩
  | .hbm, ⟨20, _⟩ => ⟨S32768x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.FfnRow.lean ====
/- The output projection and the channel mixer of one token: functions on rows of 1024 extended reals. -/
module

public import Idealize.ShloMosaic.Lib.Pointwise

@[expose] public section

noncomputable section

namespace Ffn

open Idealize.ShloMosaic

/-- A row divided by the root of its mean square, times a gain. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- A row through a matrix. -/
def dot {m n : ℕ} (v : Fin m → EReal) (w : Fin m → Fin n → EReal) (j : Fin n) : EReal := ∑ k, v k * w k j

/-- The residual stream after the token mixer's projection. -/
def mid (mix x : Fin 1024 → EReal) (wo : Fin 1024 → Fin 1024 → EReal) (g : Fin 1024 → EReal) (j : Fin 1024) : EReal :=
  x j + rms (dot mix wo) g j

/-- The hidden units: the squares of the positive parts. -/
def hid (h : Fin 1024 → EReal) (w1 : Fin 1024 → Fin 4096 → EReal) (n : Fin 4096) : EReal :=
  max (dot h w1 n) 0 * max (dot h w1 n) 0

/-- The residual stream after the channel mixer. -/
def out (x1 : Fin 1024 → EReal) (u : Fin 4096 → EReal) (w2 : Fin 4096 → Fin 1024 → EReal) (g : Fin 1024 → EReal) (j : Fin 1024) : EReal :=
  x1 j + rms (dot u w2) g j

/-- A token's row after the output projection and the channel mixer. -/
def row (mix x : Fin 1024 → EReal) (wo : Fin 1024 → Fin 1024 → EReal) (w1 : Fin 1024 → Fin 4096 → EReal) (w2 : Fin 4096 → Fin 1024 → EReal)
    (gpost gpre gffn : Fin 1024 → EReal) : Fin 1024 → EReal :=
  out (mid mix x wo gpost) (hid (rms (mid mix x wo gpost) gpre) w1) w2 gffn

end Ffn

end
-- ==== Proof.FfnTile.lean ====
/- What the output-and-channel-mixer kernel computes of 512 rows at a time, and its reading row by row in the extended reals. -/
module

public import proofs.«01_k».proof.Proof.FfnRow
public import proofs.«01_k».proof.Proof.Gen.Kernel3Ideal.Skeleton
public import Idealize.ShloMosaic.Lib.Pipeline.Value

@[expose] public section

set_option maxRecDepth 16384

noncomputable section

namespace Cert.Kernel3Ideal.Ffn

open Cert.Kernel3Ideal Cert.Kernel3Ideal.Gen Idealize.ShloMosaic

section Tile
variable {F : FTy → Type} [FloatOps F]

def rmsT (v : FVec F S512x1024 .f32) (g : Vec F S1x1024 .f32) : FVec F S512x1024 .f32 :=
  mulf (mulf v (broadcastTo S512x1024 (rsqrt (addf (divf (shapeCast S512x1 (multiReduction .add [1] S512 (mulf v v) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 g shapeCasts_S1x1024_S1x1024) broadcasts_S1x1024_S512x1024)

def midT (mix : FVec F S512x1024 .bf16) (x : FVec F S512x1024 .f32) (wo : Vec F S1024x1024 .bf16) (g : Vec F S1x1024 .f32) : FVec F S512x1024 .f32 :=
  addf x (rmsT (matmul dot_S512x1024_S1024x1024_S512x1024_1_0_0_1_n_n none mix (shapeCast S1024x1024 wo shapeCasts_S1024x1024_S1024x1024) (constant S512x1024 .f32 0x00000000#32)) g)

def preT (x1 : FVec F S512x1024 .f32) (g : Vec F S1x1024 .f32) : FVec F S512x1024 .bf16 := truncf .bf16 (rmsT x1 g) bitsLt_bf16_f32

def reluT (h : FVec F S512x1024 .bf16) (w : Vec F S1x1024x1024 .bf16) : FVec F S512x1024 .bf16 :=
  truncf .bf16 (mulf
    (maximumf (matmul dot_S512x1024_S1024x1024_S512x1024_1_0_0_1_n_n none h (shapeCast S1024x1024 w shapeCasts_S1x1024x1024_S1024x1024) (constant S512x1024 .f32 0x00000000#32)) (broadcast S512x1024 (Scalar.ofBits .f32 0x00000000#32)))
    (maximumf (matmul dot_S512x1024_S1024x1024_S512x1024_1_0_0_1_n_n none h (shapeCast S1024x1024 w shapeCasts_S1x1024x1024_S1024x1024) (constant S512x1024 .f32 0x00000000#32)) (broadcast S512x1024 (Scalar.ofBits .f32 0x00000000#32)))) bitsLt_bf16_f32

theorem inbW (j : Fin 4) : ∀ a, (![0, 0, 1024 * j.val] : Fin 3 → ℕ) a + S1x1024x1024.size a ≤ S1x1024x4096.size a := by
  revert j; decide

/-- Columns `1024 j` to `1024 j + 1023` of the first matrix. -/
def w1T (w1 : Vec F S1x1024x4096 .bf16) (j : Fin 4) : Vec F S1x1024x1024 .bf16 :=
  View.ld w1 (Rect.unit ![0, 0, 1024 * j.val] S1x1024x1024.size (inbW j))

def hidT (h : FVec F S512x1024 .bf16) (w1 : Vec F S1x1024x4096 .bf16) : FVec F S512x4096 .bf16 :=
  concatenate S512x4096 1 [⟨S512x1024, reluT h (w1T w1 0)⟩, ⟨S512x1024, reluT h (w1T w1 1)⟩, ⟨S512x1024, reluT h (w1T w1 2)⟩, ⟨S512x1024, reluT h (w1T w1 3)⟩] concatenates_S512x1024_S512x1024_S512x1024_S512x1024_S512x4096_d1

def outT (x1 : FVec F S512x1024 .f32) (u : FVec F S512x4096 .bf16) (w2 : Vec F S1x4096x1024 .bf16) (g : Vec F S1x1024 .f32) : FVec F S512x1024 .f32 :=
  addf x1 (rmsT (matmul dot_S512x4096_S4096x1024_S512x1024_1_0_0_1_n_n none u (shapeCast S4096x1024 w2 shapeCasts_S1x4096x1024_S4096x1024) (constant S512x1024 .f32 0x00000000#32)) g)

/-- The tile of 512 rows after both sub-layers. -/
def tileT (mix : FVec F S512x1024 .bf16) (x : FVec F S512x1024 .f32) (wo : Vec F S1024x1024 .bf16) (w1 : Vec F S1x1024x4096 .bf16) (w2 : Vec F S1x4096x1024 .bf16)
    (gpost gpre gffn : Vec F S1x1024 .f32) : FVec F S512x1024 .f32 :=
  outT (midT mix x wo gpost) (hidT (preT (midT mix x wo gpost) gpre) w1) w2 gffn

end Tile

/-! ## Row by row -/

theorem rmsT_apply (v : FVec Ideal S512x1024 .f32) (g : Vec Ideal S1x1024 .f32) (r : Fin 512) (j : Fin 1024) :
    rmsT v g (ix2 r j) = _root_.Ffn.rms (fun k => v (ix2 r k)) (fun k => g (ix2 0 k)) j := by
  pointwise [rmsT, _root_.Ffn.rms]

theorem midT_apply (mix : FVec Ideal S512x1024 .bf16) (x : FVec Ideal S512x1024 .f32) (wo : Vec Ideal S1024x1024 .bf16) (g : Vec Ideal S1x1024 .f32) (r : Fin 512) (j : Fin 1024) :
    midT mix x wo g (ix2 r j) = _root_.Ffn.mid (fun k => mix (ix2 r k)) (fun k => x (ix2 r k)) (fun k l => wo (ix2 k l)) (fun k => g (ix2 0 k)) j := by
  unfold midT _root_.Ffn.mid _root_.Ffn.dot
  rw [show ∀ a b : FVec Ideal S512x1024 .f32, addf a b (ix2 r j) = a (ix2 r j) + b (ix2 r j) from fun _ _ => rfl, rmsT_apply]
  pointwise

theorem reluT_apply (h : FVec Ideal S512x1024 .bf16) (w : Vec Ideal S1x1024x1024 .bf16) (r : Fin 512) (j : Fin 1024) :
    reluT h w (ix2 r j) = max (∑ k, h (ix2 r k) * w (ix3 0 k j)) 0 * max (∑ k, h (ix2 r k) * w (ix3 0 k j)) 0 := by
  pointwise [reluT]

theorem w1T_apply (w1 : Vec Ideal S1x1024x4096 .bf16) (j : Fin 4) (k l : Fin 1024) (n : Fin 4096) (hn : n.val = 1024 * j.val + l.val) :
    w1T w1 j (ix3 0 k l) = w1 (ix3 0 k n) := by
  show w1 _ = w1 _
  congr 1
  funext a
  match a with
  | ⟨0, _⟩ => rfl
  | ⟨1, _⟩ => exact Fin.ext (by show 0 + 1 * k.val = k.val; omega)
  | ⟨2, _⟩ => exact Fin.ext (by show 1024 * j.val + 1 * l.val = n.val; omega)

theorem hidT_apply (h : FVec Ideal S512x1024 .bf16) (w1 : Vec Ideal S1x1024x4096 .bf16) (r : Fin 512) (n : Fin 4096) :
    hidT h w1 (ix2 r n) = _root_.Ffn.hid (fun k => h (ix2 r k)) (fun k n => w1 (ix3 0 k n)) n := by
  unfold hidT _root_.Ffn.hid _root_.Ffn.dot
  pointwise [reluT_apply]
  have hn := n.isLt
  by_cases h0 : n.val < 1024
  · rw [dif_pos h0]
    have e (k : Fin 1024) := w1T_apply w1 0 k ⟨n.val, by omega⟩ n (by show n.val = 1024 * 0 + (n.val); omega)
    exact congrArg (fun z => max z 0 * max z 0) (Finset.sum_congr rfl fun k _ => congrArg (h (ix2 r k) * ·) (e k))
  rw [dif_neg h0]
  by_cases h1 : n.val - 1024 < 1024
  · rw [dif_pos h1]
    have e (k : Fin 1024) := w1T_apply w1 1 k ⟨n.val - 1024, by omega⟩ n (by show n.val = 1024 * 1 + (n.val - 1024); omega)
    exact congrArg (fun z => max z 0 * max z 0) (Finset.sum_congr rfl fun k _ => congrArg (h (ix2 r k) * ·) (e k))
  rw [dif_neg h1]
  by_cases h2 : n.val - 1024 - 1024 < 1024
  · rw [dif_pos h2]
    have e (k : Fin 1024) := w1T_apply w1 2 k ⟨n.val - 1024 - 1024, by omega⟩ n (by show n.val = 1024 * 2 + (n.val - 1024 - 1024); omega)
    exact congrArg (fun z => max z 0 * max z 0) (Finset.sum_congr rfl fun k _ => congrArg (h (ix2 r k) * ·) (e k))
  rw [dif_neg h2]
  have e (k : Fin 1024) := w1T_apply w1 3 k ⟨n.val - 1024 - 1024 - 1024, by omega⟩ n (by show n.val = 1024 * 3 + (n.val - 1024 - 1024 - 1024); omega)
  exact congrArg (fun z => max z 0 * max z 0) (Finset.sum_congr rfl fun k _ => congrArg (h (ix2 r k) * ·) (e k))

theorem outT_apply (x1 : FVec Ideal S512x1024 .f32) (u : FVec Ideal S512x4096 .bf16) (w2 : Vec Ideal S1x4096x1024 .bf16) (g : Vec Ideal S1x1024 .f32) (r : Fin 512) (j : Fin 1024) :
    outT x1 u w2 g (ix2 r j) = _root_.Ffn.out (fun k => x1 (ix2 r k)) (fun k => u (ix2 r k)) (fun k l => w2 (ix3 0 k l)) (fun k => g (ix2 0 k)) j := by
  unfold outT _root_.Ffn.out _root_.Ffn.dot
  rw [show ∀ a b : FVec Ideal S512x1024 .f32, addf a b (ix2 r j) = a (ix2 r j) + b (ix2 r j) from fun _ _ => rfl, rmsT_apply]
  pointwise

theorem tileT_apply (mix : FVec Ideal S512x1024 .bf16) (x : FVec Ideal S512x1024 .f32) (wo : Vec Ideal S1024x1024 .bf16) (w1 : Vec Ideal S1x1024x4096 .bf16)
    (w2 : Vec Ideal S1x4096x1024 .bf16) (gpost gpre gffn : Vec Ideal S1x1024 .f32) (r : Fin 512) (j : Fin 1024) :
    tileT mix x wo w1 w2 gpost gpre gffn (ix2 r j)
      = _root_.Ffn.row (fun k => mix (ix2 r k)) (fun k => x (ix2 r k)) (fun k l => wo (ix2 k l)) (fun k n => w1 (ix3 0 k n)) (fun n l => w2 (ix3 0 n l))
          (fun k => gpost (ix2 0 k)) (fun k => gpre (ix2 0 k)) (fun k => gffn (ix2 0 k)) j := by
  unfold tileT _root_.Ffn.row
  rw [outT_apply]
  congr 1
  · funext k; exact midT_apply ..
  · funext n
    rw [hidT_apply]
    congr 1
    funext k
    show rmsT (F := Ideal) _ _ (ix2 r k) = _
    rw [rmsT_apply]
    congr 1
    funext k; exact midT_apply ..

end Cert.Kernel3Ideal.Ffn

end
-- ==== Proof.FfnBlock2.lean ====
/- What a grid point of the second layer's channel-mixer call leaves in its block of the result. -/
module

public import proofs.«01_k».proof.Proof.FfnTile
public import proofs.«01_k».proof.Proof.Gen.Kernel2Ideal.Value
public import Idealize.ShloMosaic.Lib.Pipeline.ReadBack
public import Idealize.ShloMosaic.Lib.Pipeline.ValueKit

@[expose] public section

set_option maxRecDepth 16384
set_option maxHeartbeats 1000000

noncomputable section

namespace Cert.Kernel2Ideal.Ffn

open Cert.Kernel2Ideal Cert.Kernel2Ideal.Gen Idealize.ShloMosaic
open Cert.Kernel3Ideal.Ffn (rmsT midT preT reluT w1T hidT outT tileT)

variable {F : FTy → Type} [FloatOps F]

/-- Sixteen stretches of 32 rows, one below the other. -/
def cat16 (a0 a1 a2 a3 a4 a5 a6 a7 a8 a9 a10 a11 a12 a13 a14 a15 : FVec F S32x1024 .f32) : FVec F S512x1024 .f32 :=
  concatenate S512x1024 0 [⟨S32x1024, a0⟩, ⟨S32x1024, a1⟩, ⟨S32x1024, a2⟩, ⟨S32x1024, a3⟩, ⟨S32x1024, a4⟩, ⟨S32x1024, a5⟩, ⟨S32x1024, a6⟩, ⟨S32x1024, a7⟩, ⟨S32x1024, a8⟩, ⟨S32x1024, a9⟩, ⟨S32x1024, a10⟩, ⟨S32x1024, a11⟩, ⟨S32x1024, a12⟩, ⟨S32x1024, a13⟩, ⟨S32x1024, a14⟩, ⟨S32x1024, a15⟩] concatenates_S32x1024_S32x1024_S32x1024_S32x1024_S32x1024_S32x1024_S32x1024_S32x1024_S32x1024_S32x1024_S32x1024_S32x1024_S32x1024_S32x1024_S32x1024_S32x1024_S512x1024_d0

theorem cat_fold (a0 a1 a2 a3 a4 a5 a6 a7 a8 a9 a10 a11 a12 a13 a14 a15 : FVec F S32x1024 .f32) (h) :
    concatenate S512x1024 0 [⟨S32x1024, a0⟩, ⟨S32x1024, a1⟩, ⟨S32x1024, a2⟩, ⟨S32x1024, a3⟩, ⟨S32x1024, a4⟩, ⟨S32x1024, a5⟩, ⟨S32x1024, a6⟩, ⟨S32x1024, a7⟩, ⟨S32x1024, a8⟩, ⟨S32x1024, a9⟩, ⟨S32x1024, a10⟩, ⟨S32x1024, a11⟩, ⟨S32x1024, a12⟩, ⟨S32x1024, a13⟩, ⟨S32x1024, a14⟩, ⟨S32x1024, a15⟩] h = cat16 a0 a1 a2 a3 a4 a5 a6 a7 a8 a9 a10 a11 a12 a13 a14 a15 := rfl

theorem inbH (r : Fin 16) (p : Fin 2) : ∀ a, (![0, r.val, 32 * p.val, 0] : Fin 4 → ℕ) a + S1x1x32x1024.size a ≤ S1x16x64x1024.size a := by
  revert r p; decide

/-- Stretch `r` of half `p` of a point's rows. -/
def str (x : Vec F S1x16x64x1024 .f32) (p : Fin 2) (r : Fin 16) : FVec F S32x1024 .f32 :=
  shapeCast S32x1024 (View.ld x (Rect.unit ![0, r.val, 32 * p.val, 0] S1x1x32x1024.size (inbH r p))) shapeCasts_S1x1x32x1024_S32x1024

/-- Half `p` of a point's 1024 rows, residue by residue. -/
def half (x : Vec F S1x16x64x1024 .f32) (p : Fin 2) : FVec F S512x1024 .f32 :=
  cat16 (str x p 0) (str x p 1) (str x p 2) (str x p 3) (str x p 4) (str x p 5) (str x p 6) (str x p 7) (str x p 8) (str x p 9) (str x p 10) (str x p 11) (str x p 12) (str x p 13) (str x p 14) (str x p 15)

def halfT (x0 : Vec F S1x16x64x1024 .f32) (x1 : Vec F S1x16x64x1024 .f32) (x2 : Vec F S1024x1024 .bf16) (x3 : Vec F S1x1024x4096 .bf16) (x4 : Vec F S1x4096x1024 .bf16) (x5 x6 x7 : Vec F S1x1024 .f32) (p : Fin 2) : FVec F S512x1024 .f32 :=
  tileT (truncf .bf16 (half x0 p) bitsLt_bf16_f32) (half x1 p) x2 x3 x4 x5 x6 x7

/-- The block a point leaves. -/
def outB (x0 : Vec F S1x16x64x1024 .f32) (x1 : Vec F S1x16x64x1024 .f32) (x2 : Vec F S1024x1024 .bf16) (x3 : Vec F S1x1024x4096 .bf16) (x4 : Vec F S1x4096x1024 .bf16) (x5 x6 x7 : Vec F S1x1024 .f32) (y : S1x1024x1024.Idx) : F .f32 :=
  halfT x0 x1 x2 x3 x4 x5 x6 x7 (Fin.ofNat 2 ((y 1).val / 512)) (ix2 (Fin.ofNat 512 ((y 1).val % 512 % 16 * 32 + (y 1).val % 512 / 16)) (y 2))

/-- The hidden units, from the four column blocks of the first matrix. -/
def hid4 (h : FVec F S512x1024 .bf16) (a b c d : Vec F S1x1024x1024 .bf16) : FVec F S512x4096 .bf16 :=
  concatenate S512x4096 1 [⟨S512x1024, reluT h a⟩, ⟨S512x1024, reluT h b⟩, ⟨S512x1024, reluT h c⟩, ⟨S512x1024, reluT h d⟩] concatenates_S512x1024_S512x1024_S512x1024_S512x1024_S512x4096_d1

/-- Rows `a` to `a + 31` of a tile, columns `c` to `c + 127`. -/
def colT (T : FVec F S512x1024 .f32) (a c : ℕ) : FVec F S1x32x128 .f32 :=
  fun x => T (ix2 (Fin.ofNat 512 (a + (x 1).val)) (Fin.ofNat 1024 (c + (x 2).val)))

theorem colT_eq (T : FVec F S512x1024 .f32) (a c : ℕ) (hs : S512x1024.Slices ![a, c] S32x128) (hc : S32x128.ShapeCasts S1x32x128) (h : a + 32 ≤ 512 ∧ c + 128 ≤ 1024) :
    shapeCast S1x32x128 (extractStridedSlice S32x128 ![a, c] T hs) hc = colT T a c := by
  funext x
  have b0 : (x 0).val < 1 := (x 0).isLt
  have b1 : (x 1).val < 32 := (x 1).isLt
  have b2 : (x 2).val < 128 := (x 2).isLt
  have c0 : ∀ v : FVec F S32x128 .f32, shapeCast S1x32x128 v hc x = v (ix2 (x 1) (x 2)) := fun v => by
    refine shapeCast_apply _ _ _ _ ?_
    rw [Shape.rowMajor_val_two, Shape.rowMajor_val_three]
    show (x 1).val * 128 + (x 2).val = ((x 0).val * 32 + (x 1).val) * 128 + (x 2).val
    omega
  rw [c0]
  unfold colT
  show T _ = T _
  congr 1
  funext k
  match k with
  | ⟨0, _⟩ => exact Fin.ext (by show a + (x 1).val = (a + (x 1).val) % 512; omega)
  | ⟨1, _⟩ => exact Fin.ext (by show c + (x 2).val = (c + (x 2).val) % 1024; omega)

/-- The plane that one column block of a tile fills, every sixteenth row from one stretch. -/
def planeT (T : FVec F S512x1024 .f32) (b c : ℕ) (y : S8x1024x128.Idx) : F .f32 :=
  T (ix2 (Fin.ofNat 512 (((y 1).val - b) % 16 * 32 + ((y 1).val - b) / 16)) (Fin.ofNat 1024 (c + (y 2).val)))

theorem row_piece (T : FVec F S512x1024 .f32) (c b cc r br a : ℕ)
    (inb : ∀ a, (![1, 32, 128] : Fin 3 → ℕ) a = 0 ∨ (![c, br, 0] : Fin 3 → ℕ) a + (![1, 16, 1] : Fin 3 → ℕ) a * ((![1, 32, 128] : Fin 3 → ℕ) a - 1) < S8x1024x128.size a)
    (pos : ∀ a, 0 < (![1, 16, 1] : Fin 3 → ℕ) a)
    (h : r < 16 ∧ br = b + r ∧ a = 32 * r)
    (x : (⟨(⟨![c, br, 0], ![1, 32, 128], ![1, 16, 1], inb⟩ : LoadRect S8x1024x128), pos⟩ : Rect S8x1024x128).shape.Idx) :
    colT T a cc x = planeT T b cc ((⟨(⟨![c, br, 0], ![1, 32, 128], ![1, 16, 1], inb⟩ : LoadRect S8x1024x128), pos⟩ : Rect S8x1024x128).emb x) := by
  obtain ⟨h1, rfl, rfl⟩ := h
  have b1 : (x 1).val < 32 := (x 1).isLt
  unfold colT planeT
  congr 1
  funext k
  match k with
  | ⟨0, _⟩ => exact Fin.ext (by
      show (32 * r + (x 1).val) % 512 = ((b + r + 16 * (x 1).val - b) % 16 * 32 + (b + r + 16 * (x 1).val - b) / 16) % 512
      have e1 : (b + r + 16 * (x 1).val - b) % 16 = r := by omega
      have e2 : (b + r + 16 * (x 1).val - b) / 16 = (x 1).val := by omega
      rw [e1, e2, Nat.mul_comm])
  | ⟨1, _⟩ => exact Fin.ext (by show (cc + (x 2).val) % 1024 = (cc + (0 + 1 * (x 2).val)) % 1024; omega)

theorem row_mem (c b r br : ℕ)
    (inb : ∀ a, (![1, 32, 128] : Fin 3 → ℕ) a = 0 ∨ (![c, br, 0] : Fin 3 → ℕ) a + (![1, 16, 1] : Fin 3 → ℕ) a * ((![1, 32, 128] : Fin 3 → ℕ) a - 1) < S8x1024x128.size a)
    (pos : ∀ a, 0 < (![1, 16, 1] : Fin 3 → ℕ) a)
    (inbB : ∀ a, (![c, b, 0] : Fin 3 → ℕ) a + (![1, 512, 128] : Fin 3 → ℕ) a ≤ S8x1024x128.size a)
    (j : (Rect.unit (s := S8x1024x128) ![c, b, 0] ![1, 512, 128] inbB).toLoadRect.shape.Idx) (h : br = b + r) (hr : (j 1).val % 16 = r) :
    (Rect.unit (s := S8x1024x128) ![c, b, 0] ![1, 512, 128] inbB).toLoadRect.idx j
      ∈ (⟨(⟨![c, br, 0], ![1, 32, 128], ![1, 16, 1], inb⟩ : LoadRect S8x1024x128), pos⟩ : Rect S8x1024x128).set := by
  subst h
  have b0 : (j 0).val < 1 := (j 0).isLt
  have b1 : (j 1).val < 512 := (j 1).isLt
  have b2 : (j 2).val < 128 := (j 2).isLt
  rw [LoadRect.mem_set]
  intro a
  match a with
  | ⟨0, _⟩ => exact ⟨0, by show 0 < 1; omega, by show c + 1 * (j 0).val = c + 1 * 0; omega⟩
  | ⟨1, _⟩ => exact ⟨(j 1).val / 16, by show (j 1).val / 16 < 32; omega, by show b + 1 * (j 1).val = b + r + 16 * ((j 1).val / 16); omega⟩
  | ⟨2, _⟩ => exact ⟨(j 2).val, b2, by show 0 + 1 * (j 2).val = 0 + 1 * (j 2).val; rfl⟩

/-- After sixteen stores, each of every sixteenth row, their rows read together are the tile's, sixteen stretches interleaved. -/
theorem read16 (v : View sig .tc .vmem S8x1024x128 .f32) (T : FVec F S512x1024 .f32) (c b cc b0 b1 b2 b3 b4 b5 b6 b7 b8 b9 b10 b11 b12 b13 b14 b15 : ℕ)
    (i0 : ∀ a, (![1, 32, 128] : Fin 3 → ℕ) a = 0 ∨ (![c, b0, 0] : Fin 3 → ℕ) a + (![1, 16, 1] : Fin 3 → ℕ) a * ((![1, 32, 128] : Fin 3 → ℕ) a - 1) < S8x1024x128.size a)
    (i1 : ∀ a, (![1, 32, 128] : Fin 3 → ℕ) a = 0 ∨ (![c, b1, 0] : Fin 3 → ℕ) a + (![1, 16, 1] : Fin 3 → ℕ) a * ((![1, 32, 128] : Fin 3 → ℕ) a - 1) < S8x1024x128.size a)
    (i2 : ∀ a, (![1, 32, 128] : Fin 3 → ℕ) a = 0 ∨ (![c, b2, 0] : Fin 3 → ℕ) a + (![1, 16, 1] : Fin 3 → ℕ) a * ((![1, 32, 128] : Fin 3 → ℕ) a - 1) < S8x1024x128.size a)
    (i3 : ∀ a, (![1, 32, 128] : Fin 3 → ℕ) a = 0 ∨ (![c, b3, 0] : Fin 3 → ℕ) a + (![1, 16, 1] : Fin 3 → ℕ) a * ((![1, 32, 128] : Fin 3 → ℕ) a - 1) < S8x1024x128.size a)
    (i4 : ∀ a, (![1, 32, 128] : Fin 3 → ℕ) a = 0 ∨ (![c, b4, 0] : Fin 3 → ℕ) a + (![1, 16, 1] : Fin 3 → ℕ) a * ((![1, 32, 128] : Fin 3 → ℕ) a - 1) < S8x1024x128.size a)
    (i5 : ∀ a, (![1, 32, 128] : Fin 3 → ℕ) a = 0 ∨ (![c, b5, 0] : Fin 3 → ℕ) a + (![1, 16, 1] : Fin 3 → ℕ) a * ((![1, 32, 128] : Fin 3 → ℕ) a - 1) < S8x1024x128.size a)
    (i6 : ∀ a, (![1, 32, 128] : Fin 3 → ℕ) a = 0 ∨ (![c, b6, 0] : Fin 3 → ℕ) a + (![1, 16, 1] : Fin 3 → ℕ) a * ((![1, 32, 128] : Fin 3 → ℕ) a - 1) < S8x1024x128.size a)
    (i7 : ∀ a, (![1, 32, 128] : Fin 3 → ℕ) a = 0 ∨ (![c, b7, 0] : Fin 3 → ℕ) a + (![1, 16, 1] : Fin 3 → ℕ) a * ((![1, 32, 128] : Fin 3 → ℕ) a - 1) < S8x1024x128.size a)
    (i8 : ∀ a, (![1, 32, 128] : Fin 3 → ℕ) a = 0 ∨ (![c, b8, 0] : Fin 3 → ℕ) a + (![1, 16, 1] : Fin 3 → ℕ) a * ((![1, 32, 128] : Fin 3 → ℕ) a - 1) < S8x1024x128.size a)
    (i9 : ∀ a, (![1, 32, 128] : Fin 3 → ℕ) a = 0 ∨ (![c, b9, 0] : Fin 3 → ℕ) a + (![1, 16, 1] : Fin 3 → ℕ) a * ((![1, 32, 128] : Fin 3 → ℕ) a - 1) < S8x1024x128.size a)
    (i10 : ∀ a, (![1, 32, 128] : Fin 3 → ℕ) a = 0 ∨ (![c, b10, 0] : Fin 3 → ℕ) a + (![1, 16, 1] : Fin 3 → ℕ) a * ((![1, 32, 128] : Fin 3 → ℕ) a - 1) < S8x1024x128.size a)
    (i11 : ∀ a, (![1, 32, 128] : Fin 3 → ℕ) a = 0 ∨ (![c, b11, 0] : Fin 3 → ℕ) a + (![1, 16, 1] : Fin 3 → ℕ) a * ((![1, 32, 128] : Fin 3 → ℕ) a - 1) < S8x1024x128.size a)
    (i12 : ∀ a, (![1, 32, 128] : Fin 3 → ℕ) a = 0 ∨ (![c, b12, 0] : Fin 3 → ℕ) a + (![1, 16, 1] : Fin 3 → ℕ) a * ((![1, 32, 128] : Fin 3 → ℕ) a - 1) < S8x1024x128.size a)
    (i13 : ∀ a, (![1, 32, 128] : Fin 3 → ℕ) a = 0 ∨ (![c, b13, 0] : Fin 3 → ℕ) a + (![1, 16, 1] : Fin 3 → ℕ) a * ((![1, 32, 128] : Fin 3 → ℕ) a - 1) < S8x1024x128.size a)
    (i14 : ∀ a, (![1, 32, 128] : Fin 3 → ℕ) a = 0 ∨ (![c, b14, 0] : Fin 3 → ℕ) a + (![1, 16, 1] : Fin 3 → ℕ) a * ((![1, 32, 128] : Fin 3 → ℕ) a - 1) < S8x1024x128.size a)
    (i15 : ∀ a, (![1, 32, 128] : Fin 3 → ℕ) a = 0 ∨ (![c, b15, 0] : Fin 3 → ℕ) a + (![1, 16, 1] : Fin 3 → ℕ) a * ((![1, 32, 128] : Fin 3 → ℕ) a - 1) < S8x1024x128.size a)
    (q0 q1 q2 q3 q4 q5 q6 q7 q8 q9 q10 q11 q12 q13 q14 q15 : ∀ a, 0 < (![1, 16, 1] : Fin 3 → ℕ) a)
    (inbB : ∀ a, (![c, b, 0] : Fin 3 → ℕ) a + (![1, 512, 128] : Fin 3 → ℕ) a ≤ S8x1024x128.size a)
    (L : List (View.Piece (Elt F) S8x1024x128 .f32))
    (h : b0 = b + 0 ∧ b1 = b + 1 ∧ b2 = b + 2 ∧ b3 = b + 3 ∧ b4 = b + 4 ∧ b5 = b + 5 ∧ b6 = b + 6 ∧ b7 = b + 7 ∧ b8 = b + 8 ∧ b9 = b + 9 ∧ b10 = b + 10 ∧ b11 = b + 11 ∧ b12 = b + 12 ∧ b13 = b + 13 ∧ b14 = b + 14 ∧ b15 = b + 15) :
    v.readCov (Val := Elt F) (⟨(⟨(⟨![c, b15, 0], ![1, 32, 128], ![1, 16, 1], i15⟩ : LoadRect S8x1024x128), q15⟩ : Rect S8x1024x128), colT T 480 cc⟩ :: ⟨(⟨(⟨![c, b14, 0], ![1, 32, 128], ![1, 16, 1], i14⟩ : LoadRect S8x1024x128), q14⟩ : Rect S8x1024x128), colT T 448 cc⟩ :: ⟨(⟨(⟨![c, b13, 0], ![1, 32, 128], ![1, 16, 1], i13⟩ : LoadRect S8x1024x128), q13⟩ : Rect S8x1024x128), colT T 416 cc⟩ :: ⟨(⟨(⟨![c, b12, 0], ![1, 32, 128], ![1, 16, 1], i12⟩ : LoadRect S8x1024x128), q12⟩ : Rect S8x1024x128), colT T 384 cc⟩ :: ⟨(⟨(⟨![c, b11, 0], ![1, 32, 128], ![1, 16, 1], i11⟩ : LoadRect S8x1024x128), q11⟩ : Rect S8x1024x128), colT T 352 cc⟩ :: ⟨(⟨(⟨![c, b10, 0], ![1, 32, 128], ![1, 16, 1], i10⟩ : LoadRect S8x1024x128), q10⟩ : Rect S8x1024x128), colT T 320 cc⟩ :: ⟨(⟨(⟨![c, b9, 0], ![1, 32, 128], ![1, 16, 1], i9⟩ : LoadRect S8x1024x128), q9⟩ : Rect S8x1024x128), colT T 288 cc⟩ :: ⟨(⟨(⟨![c, b8, 0], ![1, 32, 128], ![1, 16, 1], i8⟩ : LoadRect S8x1024x128), q8⟩ : Rect S8x1024x128), colT T 256 cc⟩ :: ⟨(⟨(⟨![c, b7, 0], ![1, 32, 128], ![1, 16, 1], i7⟩ : LoadRect S8x1024x128), q7⟩ : Rect S8x1024x128), colT T 224 cc⟩ :: ⟨(⟨(⟨![c, b6, 0], ![1, 32, 128], ![1, 16, 1], i6⟩ : LoadRect S8x1024x128), q6⟩ : Rect S8x1024x128), colT T 192 cc⟩ :: ⟨(⟨(⟨![c, b5, 0], ![1, 32, 128], ![1, 16, 1], i5⟩ : LoadRect S8x1024x128), q5⟩ : Rect S8x1024x128), colT T 160 cc⟩ :: ⟨(⟨(⟨![c, b4, 0], ![1, 32, 128], ![1, 16, 1], i4⟩ : LoadRect S8x1024x128), q4⟩ : Rect S8x1024x128), colT T 128 cc⟩ :: ⟨(⟨(⟨![c, b3, 0], ![1, 32, 128], ![1, 16, 1], i3⟩ : LoadRect S8x1024x128), q3⟩ : Rect S8x1024x128), colT T 96 cc⟩ :: ⟨(⟨(⟨![c, b2, 0], ![1, 32, 128], ![1, 16, 1], i2⟩ : LoadRect S8x1024x128), q2⟩ : Rect S8x1024x128), colT T 64 cc⟩ :: ⟨(⟨(⟨![c, b1, 0], ![1, 32, 128], ![1, 16, 1], i1⟩ : LoadRect S8x1024x128), q1⟩ : Rect S8x1024x128), colT T 32 cc⟩ :: ⟨(⟨(⟨![c, b0, 0], ![1, 32, 128], ![1, 16, 1], i0⟩ : LoadRect S8x1024x128), q0⟩ : Rect S8x1024x128), colT T 0 cc⟩ :: L)
        (Rect.unit (s := S8x1024x128) ![c, b, 0] ![1, 512, 128] inbB).toLoadRect
      = fun j => T (ix2 (Fin.ofNat 512 ((j 1).val % 16 * 32 + (j 1).val / 16)) (Fin.ofNat 1024 (cc + (j 2).val))) := by
  obtain ⟨h0, h1, h2, h3, h4, h5, h6, h7, h8, h9, h10, h11, h12, h13, h14, h15⟩ := h
  rw [View.readCov_eq_canon']
  funext j
  have hP : View.PiecesOf (Val := Elt F) (e := .f32) (planeT T b cc) [⟨(⟨(⟨![c, b15, 0], ![1, 32, 128], ![1, 16, 1], i15⟩ : LoadRect S8x1024x128), q15⟩ : Rect S8x1024x128), colT T 480 cc⟩, ⟨(⟨(⟨![c, b14, 0], ![1, 32, 128], ![1, 16, 1], i14⟩ : LoadRect S8x1024x128), q14⟩ : Rect S8x1024x128), colT T 448 cc⟩, ⟨(⟨(⟨![c, b13, 0], ![1, 32, 128], ![1, 16, 1], i13⟩ : LoadRect S8x1024x128), q13⟩ : Rect S8x1024x128), colT T 416 cc⟩, ⟨(⟨(⟨![c, b12, 0], ![1, 32, 128], ![1, 16, 1], i12⟩ : LoadRect S8x1024x128), q12⟩ : Rect S8x1024x128), colT T 384 cc⟩, ⟨(⟨(⟨![c, b11, 0], ![1, 32, 128], ![1, 16, 1], i11⟩ : LoadRect S8x1024x128), q11⟩ : Rect S8x1024x128), colT T 352 cc⟩, ⟨(⟨(⟨![c, b10, 0], ![1, 32, 128], ![1, 16, 1], i10⟩ : LoadRect S8x1024x128), q10⟩ : Rect S8x1024x128), colT T 320 cc⟩, ⟨(⟨(⟨![c, b9, 0], ![1, 32, 128], ![1, 16, 1], i9⟩ : LoadRect S8x1024x128), q9⟩ : Rect S8x1024x128), colT T 288 cc⟩, ⟨(⟨(⟨![c, b8, 0], ![1, 32, 128], ![1, 16, 1], i8⟩ : LoadRect S8x1024x128), q8⟩ : Rect S8x1024x128), colT T 256 cc⟩, ⟨(⟨(⟨![c, b7, 0], ![1, 32, 128], ![1, 16, 1], i7⟩ : LoadRect S8x1024x128), q7⟩ : Rect S8x1024x128), colT T 224 cc⟩, ⟨(⟨(⟨![c, b6, 0], ![1, 32, 128], ![1, 16, 1], i6⟩ : LoadRect S8x1024x128), q6⟩ : Rect S8x1024x128), colT T 192 cc⟩, ⟨(⟨(⟨![c, b5, 0], ![1, 32, 128], ![1, 16, 1], i5⟩ : LoadRect S8x1024x128), q5⟩ : Rect S8x1024x128), colT T 160 cc⟩, ⟨(⟨(⟨![c, b4, 0], ![1, 32, 128], ![1, 16, 1], i4⟩ : LoadRect S8x1024x128), q4⟩ : Rect S8x1024x128), colT T 128 cc⟩, ⟨(⟨(⟨![c, b3, 0], ![1, 32, 128], ![1, 16, 1], i3⟩ : LoadRect S8x1024x128), q3⟩ : Rect S8x1024x128), colT T 96 cc⟩, ⟨(⟨(⟨![c, b2, 0], ![1, 32, 128], ![1, 16, 1], i2⟩ : LoadRect S8x1024x128), q2⟩ : Rect S8x1024x128), colT T 64 cc⟩, ⟨(⟨(⟨![c, b1, 0], ![1, 32, 128], ![1, 16, 1], i1⟩ : LoadRect S8x1024x128), q1⟩ : Rect S8x1024x128), colT T 32 cc⟩, ⟨(⟨(⟨![c, b0, 0], ![1, 32, 128], ![1, 16, 1], i0⟩ : LoadRect S8x1024x128), q0⟩ : Rect S8x1024x128), colT T 0 cc⟩] :=
    ⟨row_piece T c b cc 15 b15 480 i15 q15 ⟨by decide, h15, by decide⟩, row_piece T c b cc 14 b14 448 i14 q14 ⟨by decide, h14, by decide⟩, row_piece T c b cc 13 b13 416 i13 q13 ⟨by decide, h13, by decide⟩, row_piece T c b cc 12 b12 384 i12 q12 ⟨by decide, h12, by decide⟩, row_piece T c b cc 11 b11 352 i11 q11 ⟨by decide, h11, by decide⟩, row_piece T c b cc 10 b10 320 i10 q10 ⟨by decide, h10, by decide⟩, row_piece T c b cc 9 b9 288 i9 q9 ⟨by decide, h9, by decide⟩, row_piece T c b cc 8 b8 256 i8 q8 ⟨by decide, h8, by decide⟩, row_piece T c b cc 7 b7 224 i7 q7 ⟨by decide, h7, by decide⟩, row_piece T c b cc 6 b6 192 i6 q6 ⟨by decide, h6, by decide⟩, row_piece T c b cc 5 b5 160 i5 q5 ⟨by decide, h5, by decide⟩, row_piece T c b cc 4 b4 128 i4 q4 ⟨by decide, h4, by decide⟩, row_piece T c b cc 3 b3 96 i3 q3 ⟨by decide, h3, by decide⟩, row_piece T c b cc 2 b2 64 i2 q2 ⟨by decide, h2, by decide⟩, row_piece T c b cc 1 b1 32 i1 q1 ⟨by decide, h1, by decide⟩, row_piece T c b cc 0 b0 0 i0 q0 ⟨by decide, h0, by decide⟩, trivial⟩
  have hc : ∃ p ∈ ([⟨(⟨(⟨![c, b15, 0], ![1, 32, 128], ![1, 16, 1], i15⟩ : LoadRect S8x1024x128), q15⟩ : Rect S8x1024x128), colT T 480 cc⟩, ⟨(⟨(⟨![c, b14, 0], ![1, 32, 128], ![1, 16, 1], i14⟩ : LoadRect S8x1024x128), q14⟩ : Rect S8x1024x128), colT T 448 cc⟩, ⟨(⟨(⟨![c, b13, 0], ![1, 32, 128], ![1, 16, 1], i13⟩ : LoadRect S8x1024x128), q13⟩ : Rect S8x1024x128), colT T 416 cc⟩, ⟨(⟨(⟨![c, b12, 0], ![1, 32, 128], ![1, 16, 1], i12⟩ : LoadRect S8x1024x128), q12⟩ : Rect S8x1024x128), colT T 384 cc⟩, ⟨(⟨(⟨![c, b11, 0], ![1, 32, 128], ![1, 16, 1], i11⟩ : LoadRect S8x1024x128), q11⟩ : Rect S8x1024x128), colT T 352 cc⟩, ⟨(⟨(⟨![c, b10, 0], ![1, 32, 128], ![1, 16, 1], i10⟩ : LoadRect S8x1024x128), q10⟩ : Rect S8x1024x128), colT T 320 cc⟩, ⟨(⟨(⟨![c, b9, 0], ![1, 32, 128], ![1, 16, 1], i9⟩ : LoadRect S8x1024x128), q9⟩ : Rect S8x1024x128), colT T 288 cc⟩, ⟨(⟨(⟨![c, b8, 0], ![1, 32, 128], ![1, 16, 1], i8⟩ : LoadRect S8x1024x128), q8⟩ : Rect S8x1024x128), colT T 256 cc⟩, ⟨(⟨(⟨![c, b7, 0], ![1, 32, 128], ![1, 16, 1], i7⟩ : LoadRect S8x1024x128), q7⟩ : Rect S8x1024x128), colT T 224 cc⟩, ⟨(⟨(⟨![c, b6, 0], ![1, 32, 128], ![1, 16, 1], i6⟩ : LoadRect S8x1024x128), q6⟩ : Rect S8x1024x128), colT T 192 cc⟩, ⟨(⟨(⟨![c, b5, 0], ![1, 32, 128], ![1, 16, 1], i5⟩ : LoadRect S8x1024x128), q5⟩ : Rect S8x1024x128), colT T 160 cc⟩, ⟨(⟨(⟨![c, b4, 0], ![1, 32, 128], ![1, 16, 1], i4⟩ : LoadRect S8x1024x128), q4⟩ : Rect S8x1024x128), colT T 128 cc⟩, ⟨(⟨(⟨![c, b3, 0], ![1, 32, 128], ![1, 16, 1], i3⟩ : LoadRect S8x1024x128), q3⟩ : Rect S8x1024x128), colT T 96 cc⟩, ⟨(⟨(⟨![c, b2, 0], ![1, 32, 128], ![1, 16, 1], i2⟩ : LoadRect S8x1024x128), q2⟩ : Rect S8x1024x128), colT T 64 cc⟩, ⟨(⟨(⟨![c, b1, 0], ![1, 32, 128], ![1, 16, 1], i1⟩ : LoadRect S8x1024x128), q1⟩ : Rect S8x1024x128), colT T 32 cc⟩, ⟨(⟨(⟨![c, b0, 0], ![1, 32, 128], ![1, 16, 1], i0⟩ : LoadRect S8x1024x128), q0⟩ : Rect S8x1024x128), colT T 0 cc⟩] : List (View.Piece (Elt F) S8x1024x128 .f32)),
      (Rect.unit (s := S8x1024x128) ![c, b, 0] ![1, 512, 128] inbB).toLoadRect.idx j ∈ p.1.set := by
    have hm : (j 1).val % 16 < 16 := Nat.mod_lt _ (by decide)
    generalize hr : (j 1).val % 16 = r at hm
    match r, hm with
    | 0, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), row_mem c b 0 b0 i0 q0 inbB j h0 hr⟩
    | 1, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), row_mem c b 1 b1 i1 q1 inbB j h1 hr⟩
    | 2, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), row_mem c b 2 b2 i2 q2 inbB j h2 hr⟩
    | 3, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), row_mem c b 3 b3 i3 q3 inbB j h3 hr⟩
    | 4, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), row_mem c b 4 b4 i4 q4 inbB j h4 hr⟩
    | 5, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), row_mem c b 5 b5 i5 q5 inbB j h5 hr⟩
    | 6, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), row_mem c b 6 b6 i6 q6 inbB j h6 hr⟩
    | 7, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), row_mem c b 7 b7 i7 q7 inbB j h7 hr⟩
    | 8, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), row_mem c b 8 b8 i8 q8 inbB j h8 hr⟩
    | 9, _ => exact ⟨_, List.mem_cons_of_mem _ (List.mem_cons_of_mem _ (List.mem_cons_of_mem _ (List.mem_cons_of_mem _ (List.mem_cons_of_mem _ (List.mem_cons_of_mem _ (List.mem_cons_self)))))), row_mem c b 9 b9 i9 q9 inbB j h9 hr⟩
    | 10, _ => exact ⟨_, List.mem_cons_of_mem _ (List.mem_cons_of_mem _ (List.mem_cons_of_mem _ (List.mem_cons_of_mem _ (List.mem_cons_of_mem _ (List.mem_cons_self))))), row_mem c b 10 b10 i10 q10 inbB j h10 hr⟩
    | 11, _ => exact ⟨_, List.mem_cons_of_mem _ (List.mem_cons_of_mem _ (List.mem_cons_of_mem _ (List.mem_cons_of_mem _ (List.mem_cons_self)))), row_mem c b 11 b11 i11 q11 inbB j h11 hr⟩
    | 12, _ => exact ⟨_, List.mem_cons_of_mem _ (List.mem_cons_of_mem _ (List.mem_cons_of_mem _ (List.mem_cons_self))), row_mem c b 12 b12 i12 q12 inbB j h12 hr⟩
    | 13, _ => exact ⟨_, List.mem_cons_of_mem _ (List.mem_cons_of_mem _ (List.mem_cons_self)), row_mem c b 13 b13 i13 q13 inbB j h13 hr⟩
    | 14, _ => exact ⟨_, List.mem_cons_of_mem _ (List.mem_cons_self), row_mem c b 14 b14 i14 q14 inbB j h14 hr⟩
    | 15, _ => exact ⟨_, List.mem_cons_self, row_mem c b 15 b15 i15 q15 inbB j h15 hr⟩
    | n + 16, h => exact absurd h (by omega)
  refine (View.canon_append_of_piecesOf (Val := Elt F) (e := .f32) (planeT T b cc) L _ hP _ hc).trans ?_
  unfold planeT
  have e1 : b + 1 * (j 1).val - b = (j 1).val := by omega
  congr 1
  funext k
  match k with
  | ⟨0, _⟩ => exact Fin.ext (by
      show ((b + 1 * (j 1).val - b) % 16 * 32 + (b + 1 * (j 1).val - b) / 16) % 512 = ((j 1).val % 16 * 32 + (j 1).val / 16) % 512
      rw [e1])
  | ⟨1, _⟩ => exact Fin.ext (by show (cc + (0 + 1 * (j 2).val)) % 1024 = (cc + (j 2).val) % 1024; omega)

theorem mid_0 (X : FVec F S512x1024 .f32) (c0 c1 c2 c3 c4 c5 c6 c7 c8 c9 c10 c11 c12 : FVec F S32x1024 .f32) (b13 b14 b15 : Vec F S1x1x32x1024 .f32) (wo : Vec F S1024x1024 .bf16) (gpost : Vec F S1x1024 .f32) :
    k0_pay29 X c0 c1 c2 c3 c4 c5 c6 c7 c8 c9 c10 c11 c12 b13 b14 b15 wo gpost = (midT (truncf .bf16 (cat16 c0 c1 c2 c3 c4 c5 c6 c7 c8 c9 c10 c11 c12 (shapeCast S32x1024 b13 shapeCasts_S1x1x32x1024_S32x1024) (shapeCast S32x1024 b14 shapeCasts_S1x1x32x1024_S32x1024) (shapeCast S32x1024 b15 shapeCasts_S1x1x32x1024_S32x1024)) bitsLt_bf16_f32) X wo gpost) := rfl

theorem pre_0 (X : FVec F S512x1024 .f32) (c0 c1 c2 c3 c4 c5 c6 c7 c8 c9 c10 c11 c12 : FVec F S32x1024 .f32) (b13 b14 b15 : Vec F S1x1x32x1024 .f32) (wo : Vec F S1024x1024 .bf16) (gpost gpre : Vec F S1x1024 .f32) (h) :
    k0_pay32 (shapeCast S1x1024 gpre h) (k0_pay31 X c0 c1 c2 c3 c4 c5 c6 c7 c8 c9 c10 c11 c12 b13 b14 b15 wo gpost) = preT (midT (truncf .bf16 (cat16 c0 c1 c2 c3 c4 c5 c6 c7 c8 c9 c10 c11 c12 (shapeCast S32x1024 b13 shapeCasts_S1x1x32x1024_S32x1024) (shapeCast S32x1024 b14 shapeCasts_S1x1x32x1024_S32x1024) (shapeCast S32x1024 b15 shapeCasts_S1x1x32x1024_S32x1024)) bitsLt_bf16_f32) X wo gpost) gpre := rfl

theorem ffn_0 (M : FVec F S512x1024 .f32) (h : FVec F S512x1024 .bf16) (a b c d : Vec F S1x1024x1024 .bf16) (w2 : Vec F S1x4096x1024 .bf16) (g : Vec F S1x1024 .f32) :
    k0_pay61 M (k0_pay60 h a b c d w2) g
      = outT M (hid4 h a b c d) w2 g := rfl

theorem mid_1 (X : FVec F S512x1024 .f32) (c0 c1 c2 c3 c4 c5 c6 c7 c8 c9 c10 c11 c12 : FVec F S32x1024 .f32) (b13 b14 b15 : Vec F S1x1x32x1024 .f32) (wo : Vec F S1024x1024 .bf16) (gpost : Vec F S1x1024 .f32) :
    k0_pay56 X c0 c1 c2 c3 c4 c5 c6 c7 c8 c9 c10 c11 c12 b13 b14 b15 wo gpost = (midT (truncf .bf16 (cat16 c0 c1 c2 c3 c4 c5 c6 c7 c8 c9 c10 c11 c12 (shapeCast S32x1024 b13 shapeCasts_S1x1x32x1024_S32x1024) (shapeCast S32x1024 b14 shapeCasts_S1x1x32x1024_S32x1024) (shapeCast S32x1024 b15 shapeCasts_S1x1x32x1024_S32x1024)) bitsLt_bf16_f32) X wo gpost) := rfl

theorem pre_1 (X : FVec F S512x1024 .f32) (c0 c1 c2 c3 c4 c5 c6 c7 c8 c9 c10 c11 c12 : FVec F S32x1024 .f32) (b13 b14 b15 : Vec F S1x1x32x1024 .f32) (wo : Vec F S1024x1024 .bf16) (gpost gpre : Vec F S1x1024 .f32) (h) :
    k0_pay59 (midT (truncf .bf16 (cat16 c0 c1 c2 c3 c4 c5 c6 c7 c8 c9 c10 c11 c12 (shapeCast S32x1024 b13 shapeCasts_S1x1x32x1024_S32x1024) (shapeCast S32x1024 b14 shapeCasts_S1x1x32x1024_S32x1024) (shapeCast S32x1024 b15 shapeCasts_S1x1x32x1024_S32x1024)) bitsLt_bf16_f32) X wo gpost) (shapeCast S1x1024 gpre h) (k0_pay58 X c0 c1 c2 c3 c4 c5 c6 c7 c8 c9 c10 c11 c12 b13 b14 b15 wo gpost) = preT (midT (truncf .bf16 (cat16 c0 c1 c2 c3 c4 c5 c6 c7 c8 c9 c10 c11 c12 (shapeCast S32x1024 b13 shapeCasts_S1x1x32x1024_S32x1024) (shapeCast S32x1024 b14 shapeCasts_S1x1x32x1024_S32x1024) (shapeCast S32x1024 b15 shapeCasts_S1x1x32x1024_S32x1024)) bitsLt_bf16_f32) X wo gpost) gpre := rfl

theorem ffn_1 (M : FVec F S512x1024 .f32) (h : FVec F S512x1024 .bf16) (a b c d : Vec F S1x1024x1024 .bf16) (w2 : Vec F S1x4096x1024 .bf16) (g : Vec F S1x1024 .f32) (hg) :
    k0_pay208 M (k0_pay206 h a b c d w2) (shapeCast S1x1024 g hg)
      = outT M (hid4 h a b c d) w2 g := rfl

theorem half0 (x0 : Vec F S1x16x64x1024 .f32) (x1 : Vec F S1x16x64x1024 .f32) (x2 : Vec F S1024x1024 .bf16) (x3 : Vec F S1x1024x4096 .bf16) (x4 : Vec F S1x4096x1024 .bf16) (x5 x6 x7 : Vec F S1x1024 .f32) :
    outT (midT (truncf .bf16 (cat16 (shapeCast S32x1024 (View.ld x0 (Rect.unit ![0, 0, 0, 0] ![1, 1, 32, 1024] inb_S1x16x64x1024_S1x1x32x1024_0_0_0_0)) shapeCasts_S1x1x32x1024_S32x1024) (shapeCast S32x1024 (View.ld x0 (Rect.unit ![0, 1, 0, 0] ![1, 1, 32, 1024] inb_S1x16x64x1024_S1x1x32x1024_0_1_0_0)) shapeCasts_S1x1x32x1024_S32x1024) (shapeCast S32x1024 (View.ld x0 (Rect.unit ![0, 2, 0, 0] ![1, 1, 32, 1024] inb_S1x16x64x1024_S1x1x32x1024_0_2_0_0)) shapeCasts_S1x1x32x1024_S32x1024) (shapeCast S32x1024 (View.ld x0 (Rect.unit ![0, 3, 0, 0] ![1, 1, 32, 1024] inb_S1x16x64x1024_S1x1x32x1024_0_3_0_0)) shapeCasts_S1x1x32x1024_S32x1024) (shapeCast S32x1024 (View.ld x0 (Rect.unit ![0, 4, 0, 0] ![1, 1, 32, 1024] inb_S1x16x64x1024_S1x1x32x1024_0_4_0_0)) shapeCasts_S1x1x32x1024_S32x1024) (shapeCast S32x1024 (View.ld x0 (Rect.unit ![0, 5, 0, 0] ![1, 1, 32, 1024] inb_S1x16x64x1024_S1x1x32x1024_0_5_0_0)) shapeCasts_S1x1x32x1024_S32x1024) (shapeCast S32x1024 (View.ld x0 (Rect.unit ![0, 6, 0, 0] ![1, 1, 32, 1024] inb_S1x16x64x1024_S1x1x32x1024_0_6_0_0)) shapeCasts_S1x1x32x1024_S32x1024) (shapeCast S32x1024 (View.ld x0 (Rect.unit ![0, 7, 0, 0] ![1, 1, 32, 1024] inb_S1x16x64x1024_S1x1x32x1024_0_7_0_0)) shapeCasts_S1x1x32x1024_S32x1024) (shapeCast S32x1024 (View.ld x0 (Rect.unit ![0, 8, 0, 0] ![1, 1, 32, 1024] inb_S1x16x64x1024_S1x1x32x1024_0_8_0_0)) shapeCasts_S1x1x32x1024_S32x1024) (shapeCast S32x1024 (View.ld x0 (Rect.unit ![0, 9, 0, 0] ![1, 1, 32, 1024] inb_S1x16x64x1024_S1x1x32x1024_0_9_0_0)) shapeCasts_S1x1x32x1024_S32x1024) (shapeCast S32x1024 (View.ld x0 (Rect.unit ![0, 10, 0, 0] ![1, 1, 32, 1024] inb_S1x16x64x1024_S1x1x32x1024_0_10_0_0)) shapeCasts_S1x1x32x1024_S32x1024) (shapeCast S32x1024 (View.ld x0 (Rect.unit ![0, 11, 0, 0] ![1, 1, 32, 1024] inb_S1x16x64x1024_S1x1x32x1024_0_11_0_0)) shapeCasts_S1x1x32x1024_S32x1024) (shapeCast S32x1024 (View.ld x0 (Rect.unit ![0, 12, 0, 0] ![1, 1, 32, 1024] inb_S1x16x64x1024_S1x1x32x1024_0_12_0_0)) shapeCasts_S1x1x32x1024_S32x1024) (shapeCast S32x1024 (View.ld x0 (Rect.unit ![0, 13, 0, 0] ![1, 1, 32, 1024] inb_S1x16x64x1024_S1x1x32x1024_0_13_0_0)) shapeCasts_S1x1x32x1024_S32x1024) (shapeCast S32x1024 (View.ld x0 (Rect.unit ![0, 14, 0, 0] ![1, 1, 32, 1024] inb_S1x16x64x1024_S1x1x32x1024_0_14_0_0)) shapeCasts_S1x1x32x1024_S32x1024) (shapeCast S32x1024 (View.ld x0 (Rect.unit ![0, 15, 0, 0] ![1, 1, 32, 1024] inb_S1x16x64x1024_S1x1x32x1024_0_15_0_0)) shapeCasts_S1x1x32x1024_S32x1024)) bitsLt_bf16_f32) (cat16 (shapeCast S32x1024 (View.ld x1 (Rect.unit ![0, 0, 0, 0] ![1, 1, 32, 1024] inb_S1x16x64x1024_S1x1x32x1024_0_0_0_0)) shapeCasts_S1x1x32x1024_S32x1024) (shapeCast S32x1024 (View.ld x1 (Rect.unit ![0, 1, 0, 0] ![1, 1, 32, 1024] inb_S1x16x64x1024_S1x1x32x1024_0_1_0_0)) shapeCasts_S1x1x32x1024_S32x1024) (shapeCast S32x1024 (View.ld x1 (Rect.unit ![0, 2, 0, 0] ![1, 1, 32, 1024] inb_S1x16x64x1024_S1x1x32x1024_0_2_0_0)) shapeCasts_S1x1x32x1024_S32x1024) (shapeCast S32x1024 (View.ld x1 (Rect.unit ![0, 3, 0, 0] ![1, 1, 32, 1024] inb_S1x16x64x1024_S1x1x32x1024_0_3_0_0)) shapeCasts_S1x1x32x1024_S32x1024) (shapeCast S32x1024 (View.ld x1 (Rect.unit ![0, 4, 0, 0] ![1, 1, 32, 1024] inb_S1x16x64x1024_S1x1x32x1024_0_4_0_0)) shapeCasts_S1x1x32x1024_S32x1024) (shapeCast S32x1024 (View.ld x1 (Rect.unit ![0, 5, 0, 0] ![1, 1, 32, 1024] inb_S1x16x64x1024_S1x1x32x1024_0_5_0_0)) shapeCasts_S1x1x32x1024_S32x1024) (shapeCast S32x1024 (View.ld x1 (Rect.unit ![0, 6, 0, 0] ![1, 1, 32, 1024] inb_S1x16x64x1024_S1x1x32x1024_0_6_0_0)) shapeCasts_S1x1x32x1024_S32x1024) (shapeCast S32x1024 (View.ld x1 (Rect.unit ![0, 7, 0, 0] ![1, 1, 32, 1024] inb_S1x16x64x1024_S1x1x32x1024_0_7_0_0)) shapeCasts_S1x1x32x1024_S32x1024) (shapeCast S32x1024 (View.ld x1 (Rect.unit ![0, 8, 0, 0] ![1, 1, 32, 1024] inb_S1x16x64x1024_S1x1x32x1024_0_8_0_0)) shapeCasts_S1x1x32x1024_S32x1024) (shapeCast S32x1024 (View.ld x1 (Rect.unit ![0, 9, 0, 0] ![1, 1, 32, 1024] inb_S1x16x64x1024_S1x1x32x1024_0_9_0_0)) shapeCasts_S1x1x32x1024_S32x1024) (shapeCast S32x1024 (View.ld x1 (Rect.unit ![0, 10, 0, 0] ![1, 1, 32, 1024] inb_S1x16x64x1024_S1x1x32x1024_0_10_0_0)) shapeCasts_S1x1x32x1024_S32x1024) (shapeCast S32x1024 (View.ld x1 (Rect.unit ![0, 11, 0, 0] ![1, 1, 32, 1024] inb_S1x16x64x1024_S1x1x32x1024_0_11_0_0)) shapeCasts_S1x1x32x1024_S32x1024) (shapeCast S32x1024 (View.ld x1 (Rect.unit ![0, 12, 0, 0] ![1, 1, 32, 1024] inb_S1x16x64x1024_S1x1x32x1024_0_12_0_0)) shapeCasts_S1x1x32x1024_S32x1024) (shapeCast S32x1024 (View.ld x1 (Rect.unit ![0, 13, 0, 0] ![1, 1, 32, 1024] inb_S1x16x64x1024_S1x1x32x1024_0_13_0_0)) shapeCasts_S1x1x32x1024_S32x1024) (shapeCast S32x1024 (View.ld x1 (Rect.unit ![0, 14, 0, 0] ![1, 1, 32, 1024] inb_S1x16x64x1024_S1x1x32x1024_0_14_0_0)) shapeCasts_S1x1x32x1024_S32x1024) (shapeCast S32x1024 (View.ld x1 (Rect.unit ![0, 15, 0, 0] ![1, 1, 32, 1024] inb_S1x16x64x1024_S1x1x32x1024_0_15_0_0)) shapeCasts_S1x1x32x1024_S32x1024)) (View.ld x2 (Rect.unit ![0, 0] ![1024, 1024] inb_S1024x1024_S1024x1024_0_0)) (View.ld x5 (Rect.unit ![0, 0] ![1, 1024] inb_S1x1024_S1x1024_0_0)))
      (hid4 (preT (midT (truncf .bf16 (cat16 (shapeCast S32x1024 (View.ld x0 (Rect.unit ![0, 0, 0, 0] ![1, 1, 32, 1024] inb_S1x16x64x1024_S1x1x32x1024_0_0_0_0)) shapeCasts_S1x1x32x1024_S32x1024) (shapeCast S32x1024 (View.ld x0 (Rect.unit ![0, 1, 0, 0] ![1, 1, 32, 1024] inb_S1x16x64x1024_S1x1x32x1024_0_1_0_0)) shapeCasts_S1x1x32x1024_S32x1024) (shapeCast S32x1024 (View.ld x0 (Rect.unit ![0, 2, 0, 0] ![1, 1, 32, 1024] inb_S1x16x64x1024_S1x1x32x1024_0_2_0_0)) shapeCasts_S1x1x32x1024_S32x1024) (shapeCast S32x1024 (View.ld x0 (Rect.unit ![0, 3, 0, 0] ![1, 1, 32, 1024] inb_S1x16x64x1024_S1x1x32x1024_0_3_0_0)) shapeCasts_S1x1x32x1024_S32x1024) (shapeCast S32x1024 (View.ld x0 (Rect.unit ![0, 4, 0, 0] ![1, 1, 32, 1024] inb_S1x16x64x1024_S1x1x32x1024_0_4_0_0)) shapeCasts_S1x1x32x1024_S32x1024) (shapeCast S32x1024 (View.ld x0 (Rect.unit ![0, 5, 0, 0] ![1, 1, 32, 1024] inb_S1x16x64x1024_S1x1x32x1024_0_5_0_0)) shapeCasts_S1x1x32x1024_S32x1024) (shapeCast S32x1024 (View.ld x0 (Rect.unit ![0, 6, 0, 0] ![1, 1, 32, 1024] inb_S1x16x64x1024_S1x1x32x1024_0_6_0_0)) shapeCasts_S1x1x32x1024_S32x1024) (shapeCast S32x1024 (View.ld x0 (Rect.unit ![0, 7, 0, 0] ![1, 1, 32, 1024] inb_S1x16x64x1024_S1x1x32x1024_0_7_0_0)) shapeCasts_S1x1x32x1024_S32x1024) (shapeCast S32x1024 (View.ld x0 (Rect.unit ![0, 8, 0, 0] ![1, 1, 32, 1024] inb_S1x16x64x1024_S1x1x32x1024_0_8_0_0)) shapeCasts_S1x1x32x1024_S32x1024) (shapeCast S32x1024 (View.ld x0 (Rect.unit ![0, 9, 0, 0] ![1, 1, 32, 1024] inb_S1x16x64x1024_S1x1x32x1024_0_9_0_0)) shapeCasts_S1x1x32x1024_S32x1024) (shapeCast S32x1024 (View.ld x0 (Rect.unit ![0, 10, 0, 0] ![1, 1, 32, 1024] inb_S1x16x64x1024_S1x1x32x1024_0_10_0_0)) shapeCasts_S1x1x32x1024_S32x1024) (shapeCast S32x1024 (View.ld x0 (Rect.unit ![0, 11, 0, 0] ![1, 1, 32, 1024] inb_S1x16x64x1024_S1x1x32x1024_0_11_0_0)) shapeCasts_S1x1x32x1024_S32x1024) (shapeCast S32x1024 (View.ld x0 (Rect.unit ![0, 12, 0, 0] ![1, 1, 32, 1024] inb_S1x16x64x1024_S1x1x32x1024_0_12_0_0)) shapeCasts_S1x1x32x1024_S32x1024) (shapeCast S32x1024 (View.ld x0 (Rect.unit ![0, 13, 0, 0] ![1, 1, 32, 1024] inb_S1x16x64x1024_S1x1x32x1024_0_13_0_0)) shapeCasts_S1x1x32x1024_S32x1024) (shapeCast S32x1024 (View.ld x0 (Rect.unit ![0, 14, 0, 0] ![1, 1, 32, 1024] inb_S1x16x64x1024_S1x1x32x1024_0_14_0_0)) shapeCasts_S1x1x32x1024_S32x1024) (shapeCast S32x1024 (View.ld x0 (Rect.unit ![0, 15, 0, 0] ![1, 1, 32, 1024] inb_S1x16x64x1024_S1x1x32x1024_0_15_0_0)) shapeCasts_S1x1x32x1024_S32x1024)) bitsLt_bf16_f32) (cat16 (shapeCast S32x1024 (View.ld x1 (Rect.unit ![0, 0, 0, 0] ![1, 1, 32, 1024] inb_S1x16x64x1024_S1x1x32x1024_0_0_0_0)) shapeCasts_S1x1x32x1024_S32x1024) (shapeCast S32x1024 (View.ld x1 (Rect.unit ![0, 1, 0, 0] ![1, 1, 32, 1024] inb_S1x16x64x1024_S1x1x32x1024_0_1_0_0)) shapeCasts_S1x1x32x1024_S32x1024) (shapeCast S32x1024 (View.ld x1 (Rect.unit ![0, 2, 0, 0] ![1, 1, 32, 1024] inb_S1x16x64x1024_S1x1x32x1024_0_2_0_0)) shapeCasts_S1x1x32x1024_S32x1024) (shapeCast S32x1024 (View.ld x1 (Rect.unit ![0, 3, 0, 0] ![1, 1, 32, 1024] inb_S1x16x64x1024_S1x1x32x1024_0_3_0_0)) shapeCasts_S1x1x32x1024_S32x1024) (shapeCast S32x1024 (View.ld x1 (Rect.unit ![0, 4, 0, 0] ![1, 1, 32, 1024] inb_S1x16x64x1024_S1x1x32x1024_0_4_0_0)) shapeCasts_S1x1x32x1024_S32x1024) (shapeCast S32x1024 (View.ld x1 (Rect.unit ![0, 5, 0, 0] ![1, 1, 32, 1024] inb_S1x16x64x1024_S1x1x32x1024_0_5_0_0)) shapeCasts_S1x1x32x1024_S32x1024) (shapeCast S32x1024 (View.ld x1 (Rect.unit ![0, 6, 0, 0] ![1, 1, 32, 1024] inb_S1x16x64x1024_S1x1x32x1024_0_6_0_0)) shapeCasts_S1x1x32x1024_S32x1024) (shapeCast S32x1024 (View.ld x1 (Rect.unit ![0, 7, 0, 0] ![1, 1, 32, 1024] inb_S1x16x64x1024_S1x1x32x1024_0_7_0_0)) shapeCasts_S1x1x32x1024_S32x1024) (shapeCast S32x1024 (View.ld x1 (Rect.unit ![0, 8, 0, 0] ![1, 1, 32, 1024] inb_S1x16x64x1024_S1x1x32x1024_0_8_0_0)) shapeCasts_S1x1x32x1024_S32x1024) (shapeCast S32x1024 (View.ld x1 (Rect.unit ![0, 9, 0, 0] ![1, 1, 32, 1024] inb_S1x16x64x1024_S1x1x32x1024_0_9_0_0)) shapeCasts_S1x1x32x1024_S32x1024) (shapeCast S32x1024 (View.ld x1 (Rect.unit ![0, 10, 0, 0] ![1, 1, 32, 1024] inb_S1x16x64x1024_S1x1x32x1024_0_10_0_0)) shapeCasts_S1x1x32x1024_S32x1024) (shapeCast S32x1024 (View.ld x1 (Rect.unit ![0, 11, 0, 0] ![1, 1, 32, 1024] inb_S1x16x64x1024_S1x1x32x1024_0_11_0_0)) shapeCasts_S1x1x32x1024_S32x1024) (shapeCast S32x1024 (View.ld x1 (Rect.unit ![0, 12, 0, 0] ![1, 1, 32, 1024] inb_S1x16x64x1024_S1x1x32x1024_0_12_0_0)) shapeCasts_S1x1x32x1024_S32x1024) (shapeCast S32x1024 (View.ld x1 (Rect.unit ![0, 13, 0, 0] ![1, 1, 32, 1024] inb_S1x16x64x1024_S1x1x32x1024_0_13_0_0)) shapeCasts_S1x1x32x1024_S32x1024) (shapeCast S32x1024 (View.ld x1 (Rect.unit ![0, 14, 0, 0] ![1, 1, 32, 1024] inb_S1x16x64x1024_S1x1x32x1024_0_14_0_0)) shapeCasts_S1x1x32x1024_S32x1024) (shapeCast S32x1024 (View.ld x1 (Rect.unit ![0, 15, 0, 0] ![1, 1, 32, 1024] inb_S1x16x64x1024_S1x1x32x1024_0_15_0_0)) shapeCasts_S1x1x32x1024_S32x1024)) (View.ld x2 (Rect.unit ![0, 0] ![1024, 1024] inb_S1024x1024_S1024x1024_0_0)) (View.ld x5 (Rect.unit ![0, 0] ![1, 1024] inb_S1x1024_S1x1024_0_0))) (View.ld x6 (Rect.unit ![0, 0] ![1, 1024] inb_S1x1024_S1x1024_0_0))) (View.ld x3 (Rect.unit ![0, 0, 0] ![1, 1024, 1024] inb_S1x1024x4096_S1x1024x1024_0_0_0)) (View.ld x3 (Rect.unit ![0, 0, 1024] ![1, 1024, 1024] inb_S1x1024x4096_S1x1024x1024_0_0_1024)) (View.ld x3 (Rect.unit ![0, 0, 2048] ![1, 1024, 1024] inb_S1x1024x4096_S1x1024x1024_0_0_2048)) (View.ld x3 (Rect.unit ![0, 0, 3072] ![1, 1024, 1024] inb_S1x1024x4096_S1x1024x1024_0_0_3072)))
      (View.ld x4 (Rect.unit ![0, 0, 0] ![1, 4096, 1024] inb_S1x4096x1024_S1x4096x1024_0_0_0)) (View.ld x7 (Rect.unit ![0, 0] ![1, 1024] inb_S1x1024_S1x1024_0_0))
      = halfT x0 x1 x2 x3 x4 x5 x6 x7 0 := by
  have e2 : View.ld x2 (Rect.unit ![0, 0] ![1024, 1024] inb_S1024x1024_S1024x1024_0_0) = x2 := View.ld_unit_lit' _ _ (by decide)
  have e4 : View.ld x4 (Rect.unit ![0, 0, 0] ![1, 4096, 1024] inb_S1x4096x1024_S1x4096x1024_0_0_0) = x4 := View.ld_unit_lit' _ _ (by decide)
  have e5 : ∀ z : Vec F S1x1024 .f32, View.ld z (Rect.unit ![0, 0] ![1, 1024] inb_S1x1024_S1x1024_0_0) = z := fun z => View.ld_unit_lit' _ z (by decide)
  rw [e2, e4, e5 x5, e5 x6, e5 x7]
  rfl

theorem half1 (x0 : Vec F S1x16x64x1024 .f32) (x1 : Vec F S1x16x64x1024 .f32) (x2 : Vec F S1024x1024 .bf16) (x3 : Vec F S1x1024x4096 .bf16) (x4 : Vec F S1x4096x1024 .bf16) (x5 x6 x7 : Vec F S1x1024 .f32) :
    outT (midT (truncf .bf16 (cat16 (shapeCast S32x1024 (View.ld x0 (Rect.unit ![0, 0, 32, 0] ![1, 1, 32, 1024] inb_S1x16x64x1024_S1x1x32x1024_0_0_32_0)) shapeCasts_S1x1x32x1024_S32x1024) (shapeCast S32x1024 (View.ld x0 (Rect.unit ![0, 1, 32, 0] ![1, 1, 32, 1024] inb_S1x16x64x1024_S1x1x32x1024_0_1_32_0)) shapeCasts_S1x1x32x1024_S32x1024) (shapeCast S32x1024 (View.ld x0 (Rect.unit ![0, 2, 32, 0] ![1, 1, 32, 1024] inb_S1x16x64x1024_S1x1x32x1024_0_2_32_0)) shapeCasts_S1x1x32x1024_S32x1024) (shapeCast S32x1024 (View.ld x0 (Rect.unit ![0, 3, 32, 0] ![1, 1, 32, 1024] inb_S1x16x64x1024_S1x1x32x1024_0_3_32_0)) shapeCasts_S1x1x32x1024_S32x1024) (shapeCast S32x1024 (View.ld x0 (Rect.unit ![0, 4, 32, 0] ![1, 1, 32, 1024] inb_S1x16x64x1024_S1x1x32x1024_0_4_32_0)) shapeCasts_S1x1x32x1024_S32x1024) (shapeCast S32x1024 (View.ld x0 (Rect.unit ![0, 5, 32, 0] ![1, 1, 32, 1024] inb_S1x16x64x1024_S1x1x32x1024_0_5_32_0)) shapeCasts_S1x1x32x1024_S32x1024) (shapeCast S32x1024 (View.ld x0 (Rect.unit ![0, 6, 32, 0] ![1, 1, 32, 1024] inb_S1x16x64x1024_S1x1x32x1024_0_6_32_0)) shapeCasts_S1x1x32x1024_S32x1024) (shapeCast S32x1024 (View.ld x0 (Rect.unit ![0, 7, 32, 0] ![1, 1, 32, 1024] inb_S1x16x64x1024_S1x1x32x1024_0_7_32_0)) shapeCasts_S1x1x32x1024_S32x1024) (shapeCast S32x1024 (View.ld x0 (Rect.unit ![0, 8, 32, 0] ![1, 1, 32, 1024] inb_S1x16x64x1024_S1x1x32x1024_0_8_32_0)) shapeCasts_S1x1x32x1024_S32x1024) (shapeCast S32x1024 (View.ld x0 (Rect.unit ![0, 9, 32, 0] ![1, 1, 32, 1024] inb_S1x16x64x1024_S1x1x32x1024_0_9_32_0)) shapeCasts_S1x1x32x1024_S32x1024) (shapeCast S32x1024 (View.ld x0 (Rect.unit ![0, 10, 32, 0] ![1, 1, 32, 1024] inb_S1x16x64x1024_S1x1x32x1024_0_10_32_0)) shapeCasts_S1x1x32x1024_S32x1024) (shapeCast S32x1024 (View.ld x0 (Rect.unit ![0, 11, 32, 0] ![1, 1, 32, 1024] inb_S1x16x64x1024_S1x1x32x1024_0_11_32_0)) shapeCasts_S1x1x32x1024_S32x1024) (shapeCast S32x1024 (View.ld x0 (Rect.unit ![0, 12, 32, 0] ![1, 1, 32, 1024] inb_S1x16x64x1024_S1x1x32x1024_0_12_32_0)) shapeCasts_S1x1x32x1024_S32x1024) (shapeCast S32x1024 (View.ld x0 (Rect.unit ![0, 13, 32, 0] ![1, 1, 32, 1024] inb_S1x16x64x1024_S1x1x32x1024_0_13_32_0)) shapeCasts_S1x1x32x1024_S32x1024) (shapeCast S32x1024 (View.ld x0 (Rect.unit ![0, 14, 32, 0] ![1, 1, 32, 1024] inb_S1x16x64x1024_S1x1x32x1024_0_14_32_0)) shapeCasts_S1x1x32x1024_S32x1024) (shapeCast S32x1024 (View.ld x0 (Rect.unit ![0, 15, 32, 0] ![1, 1, 32, 1024] inb_S1x16x64x1024_S1x1x32x1024_0_15_32_0)) shapeCasts_S1x1x32x1024_S32x1024)) bitsLt_bf16_f32) (cat16 (shapeCast S32x1024 (View.ld x1 (Rect.unit ![0, 0, 32, 0] ![1, 1, 32, 1024] inb_S1x16x64x1024_S1x1x32x1024_0_0_32_0)) shapeCasts_S1x1x32x1024_S32x1024) (shapeCast S32x1024 (View.ld x1 (Rect.unit ![0, 1, 32, 0] ![1, 1, 32, 1024] inb_S1x16x64x1024_S1x1x32x1024_0_1_32_0)) shapeCasts_S1x1x32x1024_S32x1024) (shapeCast S32x1024 (View.ld x1 (Rect.unit ![0, 2, 32, 0] ![1, 1, 32, 1024] inb_S1x16x64x1024_S1x1x32x1024_0_2_32_0)) shapeCasts_S1x1x32x1024_S32x1024) (shapeCast S32x1024 (View.ld x1 (Rect.unit ![0, 3, 32, 0] ![1, 1, 32, 1024] inb_S1x16x64x1024_S1x1x32x1024_0_3_32_0)) shapeCasts_S1x1x32x1024_S32x1024) (shapeCast S32x1024 (View.ld x1 (Rect.unit ![0, 4, 32, 0] ![1, 1, 32, 1024] inb_S1x16x64x1024_S1x1x32x1024_0_4_32_0)) shapeCasts_S1x1x32x1024_S32x1024) (shapeCast S32x1024 (View.ld x1 (Rect.unit ![0, 5, 32, 0] ![1, 1, 32, 1024] inb_S1x16x64x1024_S1x1x32x1024_0_5_32_0)) shapeCasts_S1x1x32x1024_S32x1024) (shapeCast S32x1024 (View.ld x1 (Rect.unit ![0, 6, 32, 0] ![1, 1, 32, 1024] inb_S1x16x64x1024_S1x1x32x1024_0_6_32_0)) shapeCasts_S1x1x32x1024_S32x1024) (shapeCast S32x1024 (View.ld x1 (Rect.unit ![0, 7, 32, 0] ![1, 1, 32, 1024] inb_S1x16x64x1024_S1x1x32x1024_0_7_32_0)) shapeCasts_S1x1x32x1024_S32x1024) (shapeCast S32x1024 (View.ld x1 (Rect.unit ![0, 8, 32, 0] ![1, 1, 32, 1024] inb_S1x16x64x1024_S1x1x32x1024_0_8_32_0)) shapeCasts_S1x1x32x1024_S32x1024) (shapeCast S32x1024 (View.ld x1 (Rect.unit ![0, 9, 32, 0] ![1, 1, 32, 1024] inb_S1x16x64x1024_S1x1x32x1024_0_9_32_0)) shapeCasts_S1x1x32x1024_S32x1024) (shapeCast S32x1024 (View.ld x1 (Rect.unit ![0, 10, 32, 0] ![1, 1, 32, 1024] inb_S1x16x64x1024_S1x1x32x1024_0_10_32_0)) shapeCasts_S1x1x32x1024_S32x1024) (shapeCast S32x1024 (View.ld x1 (Rect.unit ![0, 11, 32, 0] ![1, 1, 32, 1024] inb_S1x16x64x1024_S1x1x32x1024_0_11_32_0)) shapeCasts_S1x1x32x1024_S32x1024) (shapeCast S32x1024 (View.ld x1 (Rect.unit ![0, 12, 32, 0] ![1, 1, 32, 1024] inb_S1x16x64x1024_S1x1x32x1024_0_12_32_0)) shapeCasts_S1x1x32x1024_S32x1024) (shapeCast S32x1024 (View.ld x1 (Rect.unit ![0, 13, 32, 0] ![1, 1, 32, 1024] inb_S1x16x64x1024_S1x1x32x1024_0_13_32_0)) shapeCasts_S1x1x32x1024_S32x1024) (shapeCast S32x1024 (View.ld x1 (Rect.unit ![0, 14, 32, 0] ![1, 1, 32, 1024] inb_S1x16x64x1024_S1x1x32x1024_0_14_32_0)) shapeCasts_S1x1x32x1024_S32x1024) (shapeCast S32x1024 (View.ld x1 (Rect.unit ![0, 15, 32, 0] ![1, 1, 32, 1024] inb_S1x16x64x1024_S1x1x32x1024_0_15_32_0)) shapeCasts_S1x1x32x1024_S32x1024)) (View.ld x2 (Rect.unit ![0, 0] ![1024, 1024] inb_S1024x1024_S1024x1024_0_0)) (View.ld x5 (Rect.unit ![0, 0] ![1, 1024] inb_S1x1024_S1x1024_0_0)))
      (hid4 (preT (midT (truncf .bf16 (cat16 (shapeCast S32x1024 (View.ld x0 (Rect.unit ![0, 0, 32, 0] ![1, 1, 32, 1024] inb_S1x16x64x1024_S1x1x32x1024_0_0_32_0)) shapeCasts_S1x1x32x1024_S32x1024) (shapeCast S32x1024 (View.ld x0 (Rect.unit ![0, 1, 32, 0] ![1, 1, 32, 1024] inb_S1x16x64x1024_S1x1x32x1024_0_1_32_0)) shapeCasts_S1x1x32x1024_S32x1024) (shapeCast S32x1024 (View.ld x0 (Rect.unit ![0, 2, 32, 0] ![1, 1, 32, 1024] inb_S1x16x64x1024_S1x1x32x1024_0_2_32_0)) shapeCasts_S1x1x32x1024_S32x1024) (shapeCast S32x1024 (View.ld x0 (Rect.unit ![0, 3, 32, 0] ![1, 1, 32, 1024] inb_S1x16x64x1024_S1x1x32x1024_0_3_32_0)) shapeCasts_S1x1x32x1024_S32x1024) (shapeCast S32x1024 (View.ld x0 (Rect.unit ![0, 4, 32, 0] ![1, 1, 32, 1024] inb_S1x16x64x1024_S1x1x32x1024_0_4_32_0)) shapeCasts_S1x1x32x1024_S32x1024) (shapeCast S32x1024 (View.ld x0 (Rect.unit ![0, 5, 32, 0] ![1, 1, 32, 1024] inb_S1x16x64x1024_S1x1x32x1024_0_5_32_0)) shapeCasts_S1x1x32x1024_S32x1024) (shapeCast S32x1024 (View.ld x0 (Rect.unit ![0, 6, 32, 0] ![1, 1, 32, 1024] inb_S1x16x64x1024_S1x1x32x1024_0_6_32_0)) shapeCasts_S1x1x32x1024_S32x1024) (shapeCast S32x1024 (View.ld x0 (Rect.unit ![0, 7, 32, 0] ![1, 1, 32, 1024] inb_S1x16x64x1024_S1x1x32x1024_0_7_32_0)) shapeCasts_S1x1x32x1024_S32x1024) (shapeCast S32x1024 (View.ld x0 (Rect.unit ![0, 8, 32, 0] ![1, 1, 32, 1024] inb_S1x16x64x1024_S1x1x32x1024_0_8_32_0)) shapeCasts_S1x1x32x1024_S32x1024) (shapeCast S32x1024 (View.ld x0 (Rect.unit ![0, 9, 32, 0] ![1, 1, 32, 1024] inb_S1x16x64x1024_S1x1x32x1024_0_9_32_0)) shapeCasts_S1x1x32x1024_S32x1024) (shapeCast S32x1024 (View.ld x0 (Rect.unit ![0, 10, 32, 0] ![1, 1, 32, 1024] inb_S1x16x64x1024_S1x1x32x1024_0_10_32_0)) shapeCasts_S1x1x32x1024_S32x1024) (shapeCast S32x1024 (View.ld x0 (Rect.unit ![0, 11, 32, 0] ![1, 1, 32, 1024] inb_S1x16x64x1024_S1x1x32x1024_0_11_32_0)) shapeCasts_S1x1x32x1024_S32x1024) (shapeCast S32x1024 (View.ld x0 (Rect.unit ![0, 12, 32, 0] ![1, 1, 32, 1024] inb_S1x16x64x1024_S1x1x32x1024_0_12_32_0)) shapeCasts_S1x1x32x1024_S32x1024) (shapeCast S32x1024 (View.ld x0 (Rect.unit ![0, 13, 32, 0] ![1, 1, 32, 1024] inb_S1x16x64x1024_S1x1x32x1024_0_13_32_0)) shapeCasts_S1x1x32x1024_S32x1024) (shapeCast S32x1024 (View.ld x0 (Rect.unit ![0, 14, 32, 0] ![1, 1, 32, 1024] inb_S1x16x64x1024_S1x1x32x1024_0_14_32_0)) shapeCasts_S1x1x32x1024_S32x1024) (shapeCast S32x1024 (View.ld x0 (Rect.unit ![0, 15, 32, 0] ![1, 1, 32, 1024] inb_S1x16x64x1024_S1x1x32x1024_0_15_32_0)) shapeCasts_S1x1x32x1024_S32x1024)) bitsLt_bf16_f32) (cat16 (shapeCast S32x1024 (View.ld x1 (Rect.unit ![0, 0, 32, 0] ![1, 1, 32, 1024] inb_S1x16x64x1024_S1x1x32x1024_0_0_32_0)) shapeCasts_S1x1x32x1024_S32x1024) (shapeCast S32x1024 (View.ld x1 (Rect.unit ![0, 1, 32, 0] ![1, 1, 32, 1024] inb_S1x16x64x1024_S1x1x32x1024_0_1_32_0)) shapeCasts_S1x1x32x1024_S32x1024) (shapeCast S32x1024 (View.ld x1 (Rect.unit ![0, 2, 32, 0] ![1, 1, 32, 1024] inb_S1x16x64x1024_S1x1x32x1024_0_2_32_0)) shapeCasts_S1x1x32x1024_S32x1024) (shapeCast S32x1024 (View.ld x1 (Rect.unit ![0, 3, 32, 0] ![1, 1, 32, 1024] inb_S1x16x64x1024_S1x1x32x1024_0_3_32_0)) shapeCasts_S1x1x32x1024_S32x1024) (shapeCast S32x1024 (View.ld x1 (Rect.unit ![0, 4, 32, 0] ![1, 1, 32, 1024] inb_S1x16x64x1024_S1x1x32x1024_0_4_32_0)) shapeCasts_S1x1x32x1024_S32x1024) (shapeCast S32x1024 (View.ld x1 (Rect.unit ![0, 5, 32, 0] ![1, 1, 32, 1024] inb_S1x16x64x1024_S1x1x32x1024_0_5_32_0)) shapeCasts_S1x1x32x1024_S32x1024) (shapeCast S32x1024 (View.ld x1 (Rect.unit ![0, 6, 32, 0] ![1, 1, 32, 1024] inb_S1x16x64x1024_S1x1x32x1024_0_6_32_0)) shapeCasts_S1x1x32x1024_S32x1024) (shapeCast S32x1024 (View.ld x1 (Rect.unit ![0, 7, 32, 0] ![1, 1, 32, 1024] inb_S1x16x64x1024_S1x1x32x1024_0_7_32_0)) shapeCasts_S1x1x32x1024_S32x1024) (shapeCast S32x1024 (View.ld x1 (Rect.unit ![0, 8, 32, 0] ![1, 1, 32, 1024] inb_S1x16x64x1024_S1x1x32x1024_0_8_32_0)) shapeCasts_S1x1x32x1024_S32x1024) (shapeCast S32x1024 (View.ld x1 (Rect.unit ![0, 9, 32, 0] ![1, 1, 32, 1024] inb_S1x16x64x1024_S1x1x32x1024_0_9_32_0)) shapeCasts_S1x1x32x1024_S32x1024) (shapeCast S32x1024 (View.ld x1 (Rect.unit ![0, 10, 32, 0] ![1, 1, 32, 1024] inb_S1x16x64x1024_S1x1x32x1024_0_10_32_0)) shapeCasts_S1x1x32x1024_S32x1024) (shapeCast S32x1024 (View.ld x1 (Rect.unit ![0, 11, 32, 0] ![1, 1, 32, 1024] inb_S1x16x64x1024_S1x1x32x1024_0_11_32_0)) shapeCasts_S1x1x32x1024_S32x1024) (shapeCast S32x1024 (View.ld x1 (Rect.unit ![0, 12, 32, 0] ![1, 1, 32, 1024] inb_S1x16x64x1024_S1x1x32x1024_0_12_32_0)) shapeCasts_S1x1x32x1024_S32x1024) (shapeCast S32x1024 (View.ld x1 (Rect.unit ![0, 13, 32, 0] ![1, 1, 32, 1024] inb_S1x16x64x1024_S1x1x32x1024_0_13_32_0)) shapeCasts_S1x1x32x1024_S32x1024) (shapeCast S32x1024 (View.ld x1 (Rect.unit ![0, 14, 32, 0] ![1, 1, 32, 1024] inb_S1x16x64x1024_S1x1x32x1024_0_14_32_0)) shapeCasts_S1x1x32x1024_S32x1024) (shapeCast S32x1024 (View.ld x1 (Rect.unit ![0, 15, 32, 0] ![1, 1, 32, 1024] inb_S1x16x64x1024_S1x1x32x1024_0_15_32_0)) shapeCasts_S1x1x32x1024_S32x1024)) (View.ld x2 (Rect.unit ![0, 0] ![1024, 1024] inb_S1024x1024_S1024x1024_0_0)) (View.ld x5 (Rect.unit ![0, 0] ![1, 1024] inb_S1x1024_S1x1024_0_0))) (View.ld x6 (Rect.unit ![0, 0] ![1, 1024] inb_S1x1024_S1x1024_0_0))) (View.ld x3 (Rect.unit ![0, 0, 0] ![1, 1024, 1024] inb_S1x1024x4096_S1x1024x1024_0_0_0)) (View.ld x3 (Rect.unit ![0, 0, 1024] ![1, 1024, 1024] inb_S1x1024x4096_S1x1024x1024_0_0_1024)) (View.ld x3 (Rect.unit ![0, 0, 2048] ![1, 1024, 1024] inb_S1x1024x4096_S1x1024x1024_0_0_2048)) (View.ld x3 (Rect.unit ![0, 0, 3072] ![1, 1024, 1024] inb_S1x1024x4096_S1x1024x1024_0_0_3072)))
      (View.ld x4 (Rect.unit ![0, 0, 0] ![1, 4096, 1024] inb_S1x4096x1024_S1x4096x1024_0_0_0)) (View.ld x7 (Rect.unit ![0, 0] ![1, 1024] inb_S1x1024_S1x1024_0_0))
      = halfT x0 x1 x2 x3 x4 x5 x6 x7 1 := by
  have e2 : View.ld x2 (Rect.unit ![0, 0] ![1024, 1024] inb_S1024x1024_S1024x1024_0_0) = x2 := View.ld_unit_lit' _ _ (by decide)
  have e4 : View.ld x4 (Rect.unit ![0, 0, 0] ![1, 4096, 1024] inb_S1x4096x1024_S1x4096x1024_0_0_0) = x4 := View.ld_unit_lit' _ _ (by decide)
  have e5 : ∀ z : Vec F S1x1024 .f32, View.ld z (Rect.unit ![0, 0] ![1, 1024] inb_S1x1024_S1x1024_0_0) = z := fun z => View.ld_unit_lit' _ z (by decide)
  rw [e2, e4, e5 x5, e5 x6, e5 x7]
  rfl

/-- 512 rows and 128 columns of the block. -/
theorem piece {x0 : Vec F S1x16x64x1024 .f32} {x1 : Vec F S1x16x64x1024 .f32} {x2 : Vec F S1024x1024 .bf16} {x3 : Vec F S1x1024x4096 .bf16} {x4 : Vec F S1x4096x1024 .bf16} {x5 x6 x7 : Vec F S1x1024 .f32} (p : Fin 2) {b cc : ℕ}
    {inb : ∀ a, (![0, b, cc] : Fin 3 → ℕ) a + (![1, 512, 128] : Fin 3 → ℕ) a ≤ S1x1024x1024.size a}
    {hc1 : S1x512x128.ShapeCasts S512x128} {hc2 : S512x128.ShapeCasts S1x512x128} {w : FVec F S1x512x128 .f32}
    (hw : w = shapeCast S1x512x128 (shapeCast S512x128 (fun j : S1x512x128.Idx => halfT x0 x1 x2 x3 x4 x5 x6 x7 p
        (ix2 (Fin.ofNat 512 ((j 1).val % 16 * 32 + (j 1).val / 16)) (Fin.ofNat 1024 (cc + (j 2).val)))) hc1) hc2)
    (hr : b = 512 * p.val ∧ cc + 128 ≤ 1024) (x : S1x512x128.Idx) :
    w x = outB x0 x1 x2 x3 x4 x5 x6 x7 ((Rect.unit (s := S1x1024x1024) ![0, b, cc] ![1, 512, 128] inb).emb x) := by
  obtain ⟨rfl, h3⟩ := hr
  have b0 : (x 0).val < 1 := (x 0).isLt
  have b1 : (x 1).val < 512 := (x 1).isLt
  have b2 : (x 2).val < 128 := (x 2).isLt
  have bp : p.val < 2 := p.isLt
  rw [hw]
  have c2 : ∀ v : FVec F S512x128 .f32, shapeCast S1x512x128 v hc2 x = v (ix2 (x 1) (x 2)) := fun v => by
    refine shapeCast_apply _ _ _ _ ?_
    rw [Shape.rowMajor_val_two, Shape.rowMajor_val_three]
    show (x 1).val * 128 + (x 2).val = ((x 0).val * 512 + (x 1).val) * 128 + (x 2).val
    omega
  have c1 : ∀ v : Vec F S1x512x128 .f32, shapeCast S512x128 v hc1 (ix2 (x 1) (x 2)) = v (ix3 0 (x 1) (x 2)) := fun v => by
    refine shapeCast_apply _ _ _ _ ?_
    rw [Shape.rowMajor_val_two, Shape.rowMajor_val_three]
    show (0 * 512 + (x 1).val) * 128 + (x 2).val = (x 1).val * 128 + (x 2).val
    omega
  rw [c2, c1]
  unfold outB
  have e0 : Fin.ofNat 2 ((((Rect.unit (s := S1x1024x1024) ![0, 512 * p.val, cc] ![1, 512, 128] inb).emb x) 1).val / 512) = p :=
    Fin.ext (by show (512 * p.val + 1 * (x 1).val) / 512 % 2 = p.val; omega)
  rw [e0]
  show halfT x0 x1 x2 x3 x4 x5 x6 x7 p _ = halfT x0 x1 x2 x3 x4 x5 x6 x7 p _
  congr 1
  funext a
  match a with
  | ⟨0, _⟩ => exact Fin.ext (by
      show ((x 1).val % 16 * 32 + (x 1).val / 16) % 512 = ((512 * p.val + 1 * (x 1).val) % 512 % 16 * 32 + (512 * p.val + 1 * (x 1).val) % 512 / 16) % 512
      have e : (512 * p.val + 1 * (x 1).val) % 512 = (x 1).val := by omega
      rw [e])
  | ⟨1, _⟩ => exact Fin.ext (by
      show (cc + (x 2).val) % 1024 = cc + 1 * (x 2).val
      omega)

set_option maxHeartbeats 8000000 in
theorem out_A (c : Dev nD) (i : grid0.Coords) (arg2 : Memref sig .tc .vmem S1x16x64x1024 .f32) (harg2 : arg2.IsWhole) (arg3 : Memref sig .tc .vmem S1x16x64x1024 .f32) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x4096x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S8x1024x128 .f32) (harg11 : arg11.IsWhole)
    (x0 : Vec F S1x16x64x1024 .f32) (x1 : Vec F S1x16x64x1024 .f32) (x2 : Vec F S1024x1024 .bf16) (x3 : Vec F S1x1024x4096 .bf16) (x4 : Vec F S1x4096x1024 .bf16) (x5 x6 x7 : Vec F S1x1024 .f32) :
    out0_A_8 c i arg2 harg2 arg3 harg3 arg4 harg4 arg5 harg5 arg6 harg6 arg7 harg7 arg8 harg8 arg9 harg9 arg10 harg10 arg11 harg11 x0 x1 x2 x3 x4 x5 x6 x7 = outB x0 x1 x2 x3 x4 x5 x6 x7 := by
  funext y
  frame_open
  --PROBE0
  simp only [k0_pay15, k0_pay42, k0_pay30, k0_pay57, k0_pay207, k0_pay6, k0_pay7, k0_pay8, k0_pay9, k0_pay10, k0_pay11, k0_pay12, k0_pay13, k0_pay14, k0_pay16, k0_pay17, k0_pay18, k0_pay19, k0_pay20, k0_pay21, k0_pay22, k0_pay23, k0_pay24, k0_pay25, k0_pay26, k0_pay27, k0_pay28, k0_pay33, k0_pay34, k0_pay35, k0_pay36, k0_pay37, k0_pay38, k0_pay39, k0_pay40, k0_pay41, k0_pay43, k0_pay44, k0_pay45, k0_pay46, k0_pay47, k0_pay48, k0_pay49, k0_pay50, k0_pay51, k0_pay52, k0_pay53, k0_pay54, k0_pay55, k0_pay1, k0_pay2, k0_pay3, k0_pay4, k0_pay5, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350]
  simp only [cat_fold, View.readAt_eq_ld, harg2.read_unread, harg3.read_unread, harg4.read_unread, harg5.read_unread, harg6.read_unread, harg7.read_unread, harg8.read_unread, harg9.read_unread, View.read_writes_junk_eq_canon]
  simp only [mid_0, mid_1, pre_0, pre_1, ffn_0, ffn_1]
  simp only [half0, half1]
  --PROBE1
  simp (disch := decide) only [colT_eq]
  simp (disch := decide) only [read16]
  --PROBE2
  refine View.canon_apply_of_pieces (Val := Elt F) (e := .f32) (outB x0 x1 x2 x3 x4 x5 x6 x7) _ (View.PiecesOf.mem ?_) y ?_
  · iterate 8 refine ⟨piece 1 (inb := by decide) rfl (by decide), ?_⟩
    iterate 8 refine ⟨piece 0 (inb := by decide) rfl (by decide), ?_⟩
    trivial
  · exact View.cover_of_tiledL (s := S1x1024x1024) _ S1x512x128.size (by sl_kernel_rfl) y

end Cert.Kernel2Ideal.Ffn

end
-- ==== Proof.FfnRef.lean ====
/- What the reference's output projection and channel mixer compute of whole arrays, read row by row in the extended reals. -/
module

public import proofs.«01_k».proof.Proof.FfnRow
public import proofs.«01_k».proof.Proof.Gen.Reference3Ideal.Run
public import proofs.«01_k».proof.Proof.Gen.Reference2Ideal.Run

@[expose] public section

set_option maxRecDepth 16384

noncomputable section

namespace Cert.Reference3Ideal.Ffn

open Cert.Reference3Ideal Cert.Reference3Ideal.Gen Idealize.ShloMosaic Idealize.ShloMosaic.TcCoe

section Arrays
variable {F : FTy → Type} [FloatOps F]

def rmsA (v : FVec F S16x2048x1024 .f32) (g : FVec F S1024 .f32) : FVec F S16x2048x1024 .f32 :=
  mulf (mulf v (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf v v) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

def midA (mix x : FVec F S16x2048x1024 .f32) (wo : FVec F S1024x1024 .f32) (g : FVec F S1024 .f32) : FVec F S16x2048x1024 .f32 :=
  addf x (rmsA (Host.dotGeneral dot_S16x2048x1024_S1024x1024_S16x2048x1024_2_0_01_1_n_n none mix wo) g)

def hidA (h : FVec F S16x2048x1024 .f32) (w1 : FVec F S1024x4096 .f32) : FVec F S16x2048x4096 .f32 :=
  mulf (maximumf (Host.dotGeneral dot_S16x2048x1024_S1024x4096_S16x2048x4096_2_0_01_1_n_n none h w1) (broadcastInDim S16x2048x4096 ![] bcast_S_S16x2048x4096 (constant S_ .f32 0x00000000#32)))
    (maximumf (Host.dotGeneral dot_S16x2048x1024_S1024x4096_S16x2048x4096_2_0_01_1_n_n none h w1) (broadcastInDim S16x2048x4096 ![] bcast_S_S16x2048x4096 (constant S_ .f32 0x00000000#32)))

def outA (x1 : FVec F S16x2048x1024 .f32) (u : FVec F S16x2048x4096 .f32) (w2 : FVec F S4096x1024 .f32) (g : FVec F S1024 .f32) : FVec F S16x2048x1024 .f32 :=
  addf x1 (rmsA (Host.dotGeneral dot_S16x2048x4096_S4096x1024_S16x2048x1024_2_0_01_1_n_n none u w2) g)

/-- The array of all tokens after both sub-layers. -/
def wholeA (mix x : FVec F S16x2048x1024 .f32) (wo : FVec F S1024x1024 .f32) (w1 : FVec F S1024x4096 .f32) (w2 : FVec F S4096x1024 .f32)
    (gpost gpre gffn : FVec F S1024 .f32) : FVec F S16x2048x1024 .f32 :=
  outA (midA mix x wo gpost) (hidA (rmsA (midA mix x wo gpost) gpre) w1) w2 gffn

end Arrays

theorem rmsA_apply (v : FVec Ideal S16x2048x1024 .f32) (g : FVec Ideal S1024 .f32) (b : Fin 16) (t : Fin 2048) (j : Fin 1024) :
    rmsA v g (ix3 b t j) = _root_.Ffn.rms (fun k => v (ix3 b t k)) (fun k => g (ix1 k)) j := by
  pointwise [rmsA, _root_.Ffn.rms]

theorem midA_apply (mix x : FVec Ideal S16x2048x1024 .f32) (wo : FVec Ideal S1024x1024 .f32) (g : FVec Ideal S1024 .f32) (b : Fin 16) (t : Fin 2048) (j : Fin 1024) :
    midA mix x wo g (ix3 b t j) = _root_.Ffn.mid (fun k => mix (ix3 b t k)) (fun k => x (ix3 b t k)) (fun k l => wo (ix2 k l)) (fun k => g (ix1 k)) j := by
  unfold midA _root_.Ffn.mid _root_.Ffn.dot
  rw [show ∀ a b' : FVec Ideal S16x2048x1024 .f32, addf a b' (ix3 b t j) = a (ix3 b t j) + b' (ix3 b t j) from fun _ _ => rfl, rmsA_apply]
  pointwise

theorem hidA_apply (h : FVec Ideal S16x2048x1024 .f32) (w1 : FVec Ideal S1024x4096 .f32) (b : Fin 16) (t : Fin 2048) (n : Fin 4096) :
    hidA h w1 (ix3 b t n) = _root_.Ffn.hid (fun k => h (ix3 b t k)) (fun k n => w1 (ix2 k n)) n := by
  unfold _root_.Ffn.hid _root_.Ffn.dot
  pointwise [hidA]

theorem outA_apply (x1 : FVec Ideal S16x2048x1024 .f32) (u : FVec Ideal S16x2048x4096 .f32) (w2 : FVec Ideal S4096x1024 .f32) (g : FVec Ideal S1024 .f32) (b : Fin 16) (t : Fin 2048) (j : Fin 1024) :
    outA x1 u w2 g (ix3 b t j) = _root_.Ffn.out (fun k => x1 (ix3 b t k)) (fun k => u (ix3 b t k)) (fun k l => w2 (ix2 k l)) (fun k => g (ix1 k)) j := by
  unfold outA _root_.Ffn.out _root_.Ffn.dot
  rw [show ∀ a b' : FVec Ideal S16x2048x1024 .f32, addf a b' (ix3 b t j) = a (ix3 b t j) + b' (ix3 b t j) from fun _ _ => rfl, rmsA_apply]
  pointwise

theorem wholeA_apply (mix x : FVec Ideal S16x2048x1024 .f32) (wo : FVec Ideal S1024x1024 .f32) (w1 : FVec Ideal S1024x4096 .f32) (w2 : FVec Ideal S4096x1024 .f32)
    (gpost gpre gffn : FVec Ideal S1024 .f32) (b : Fin 16) (t : Fin 2048) (j : Fin 1024) :
    wholeA mix x wo w1 w2 gpost gpre gffn (ix3 b t j)
      = _root_.Ffn.row (fun k => mix (ix3 b t k)) (fun k => x (ix3 b t k)) (fun k l => wo (ix2 k l)) (fun k n => w1 (ix2 k n)) (fun n l => w2 (ix2 n l))
          (fun k => gpost (ix1 k)) (fun k => gpre (ix1 k)) (fun k => gffn (ix1 k)) j := by
  unfold wholeA _root_.Ffn.row
  rw [outA_apply]
  congr 1
  · funext k; exact midA_apply ..
  · funext n
    rw [hidA_apply]
    congr 1
    funext k
    rw [rmsA_apply]
    congr 1
    funext k; exact midA_apply ..

variable {F : FTy → Type} [FloatOps F]

/-- The result with the tokens of each residue together is the whole array, its rows moved. -/
theorem res3 (m : (ℓ : Loc nD τ sig) → Buf (Elt F) ℓ) (c : Dev nD) :
    Cert.Reference3Ideal.Value.res_out0 m c = transpose S16x16x128x1024 [0, 2, 1, 3] (shapeCast S16x128x16x1024
      (wholeA (extf .f32 (m ((c.tc : Thread nD τ).loc main_arg0)) bitsLt_bf16_f32) (m ((c.tc : Thread nD τ).loc main_arg1)) (m ((c.tc : Thread nD τ).loc main_arg2))
        (shapeCast S1024x4096 (extractStridedSlice S1x1024x4096 ![0, 0, 0] (m ((c.tc : Thread nD τ).loc main_arg3)) slices_S2x1024x4096_S1x1024x4096_0_0_0) shapeCasts_S1x1024x4096_S1024x4096)
        (shapeCast S4096x1024 (extractStridedSlice S1x4096x1024 ![0, 0, 0] (m ((c.tc : Thread nD τ).loc main_arg4)) slices_S2x4096x1024_S1x4096x1024_0_0_0) shapeCasts_S1x4096x1024_S4096x1024)
        (m ((c.tc : Thread nD τ).loc main_arg5)) (m ((c.tc : Thread nD τ).loc main_arg6)) (m ((c.tc : Thread nD τ).loc main_arg7)))
      shapeCasts_S16x2048x1024_S16x128x16x1024) transposes_S16x128x16x1024_S16x16x128x1024_0_2_1_3 := rfl

end Cert.Reference3Ideal.Ffn

namespace Cert.Reference2Ideal.Ffn

open Cert.Reference2Ideal Cert.Reference2Ideal.Gen Idealize.ShloMosaic Idealize.ShloMosaic.TcCoe

variable {F : FTy → Type} [FloatOps F]

/-- The tokens of an array that holds each residue's together, in their own order. -/
def natural (a : FVec F S16x16x128x1024 .f32) : FVec F S16x2048x1024 .f32 :=
  shapeCast S16x2048x1024 (transpose S16x128x16x1024 [0, 2, 1, 3] a transposes_S16x16x128x1024_S16x128x16x1024_0_2_1_3) shapeCasts_S16x128x16x1024_S16x2048x1024

/-- The result is the whole array of the tokens in their own order. -/
theorem res2 (m : (ℓ : Loc nD τ sig) → Buf (Elt F) ℓ) (c : Dev nD) :
    Cert.Reference2Ideal.Value.res_out0 m c =
      Cert.Reference3Ideal.Ffn.wholeA (natural (m ((c.tc : Thread nD τ).loc main_arg0))) (natural (m ((c.tc : Thread nD τ).loc main_arg1))) (m ((c.tc : Thread nD τ).loc main_arg2))
        (shapeCast S1024x4096 (extractStridedSlice S1x1024x4096 ![1, 0, 0] (m ((c.tc : Thread nD τ).loc main_arg3)) slices_S2x1024x4096_S1x1024x4096_1_0_0) shapeCasts_S1x1024x4096_S1024x4096)
        (shapeCast S4096x1024 (extractStridedSlice S1x4096x1024 ![1, 0, 0] (m ((c.tc : Thread nD τ).loc main_arg4)) slices_S2x4096x1024_S1x4096x1024_1_0_0) shapeCasts_S1x4096x1024_S4096x1024)
        (m ((c.tc : Thread nD τ).loc main_arg5)) (m ((c.tc : Thread nD τ).loc main_arg6)) (m ((c.tc : Thread nD τ).loc main_arg7)) := rfl

end Cert.Reference2Ideal.Ffn

end
-- ==== Proof.FfnArr2.lean ====
/- The result array of the second layer's channel-mixer call, as one function of the arguments, and its equality with the reference's. -/
module

public import proofs.«01_k».proof.Proof.FfnBlock2
public import proofs.«01_k».proof.Proof.FfnRef
public import Idealize.ShloMosaic.Lib.Pipeline.ValueKit.Point
public import Idealize.ShloMosaic.Lib.Pointwise

@[expose] public section

set_option maxRecDepth 16384
set_option maxHeartbeats 1000000

noncomputable section

namespace Cert.Kernel2Ideal.Ffn

open Cert.Kernel2Ideal Cert.Kernel2Ideal.Gen Cert.Kernel2Ideal.Value Idealize.ShloMosaic Idealize.ShloMosaic.TcCoe Idealize.SL.Sem

theorem str_apply (x : Vec Ideal S1x16x64x1024 .f32) (p : Fin 2) (r : Fin 16) (q : Fin 32) (k : Fin 1024) (n : Fin 64) (hn : n.val = 32 * p.val + q.val) :
    str x p r (ix2 q k) = x (ix4 0 r n k) := by
  unfold str
  refine (shapeCast_apply _ _ (ix2 q k) (ix4 0 0 q k) ?_).trans ?_
  · rw [Shape.rowMajor_val_two, Shape.rowMajor_val_four]
    show ((0 * 1 + 0) * 32 + q.val) * 1024 + k.val = q.val * 1024 + k.val
    omega
  show x _ = x _
  congr 1
  funext a
  match a with
  | ⟨0, _⟩ => rfl
  | ⟨1, _⟩ => exact Fin.ext (by show r.val + 1 * 0 = r.val; omega)
  | ⟨2, _⟩ => exact Fin.ext (by show 32 * p.val + 1 * q.val = n.val; omega)
  | ⟨3, _⟩ => exact Fin.ext (by show 0 + 1 * k.val = k.val; omega)

theorem half_apply (x : Vec Ideal S1x16x64x1024 .f32) (p : Fin 2) (q : Fin 512) (k : Fin 1024) (r : Fin 16) (n : Fin 64) (hr : r.val = q.val / 32) (hn : n.val = 32 * p.val + q.val % 32) :
    half x p (ix2 q k) = x (ix4 0 r n k) := by
  have hq := q.isLt
  refine Eq.trans (show _ = concatenate S512x1024 0 (List.ofFn fun n : Fin 16 => (⟨S32x1024, str x p n⟩ : (s : Shape) × (s.Idx → EReal)))
    concatenates_S32x1024_S32x1024_S32x1024_S32x1024_S32x1024_S32x1024_S32x1024_S32x1024_S32x1024_S32x1024_S32x1024_S32x1024_S32x1024_S32x1024_S32x1024_S32x1024_S512x1024_d0 (ix2 q k) from rfl) ?_
  refine (concatenate_ofFn_apply (t := S512x1024) (s₁ := S32x1024) (0 : Fin 2) (fun n : Fin 16 => str x p n) _ rfl 32 rfl (ix2 q k) r hr.symm (ix2 (Fin.ofNat 32 (q.val % 32)) k)
    (by show q.val % 32 % 32 = q.val % 32; omega) (fun b hb => ?_)).trans (str_apply x p r _ k n (by show n.val = 32 * p.val + q.val % 32 % 32; omega))
  match b with
  | ⟨0, _⟩ => exact absurd rfl hb
  | ⟨1, _⟩ => rfl

theorem outB_apply (x0 : Vec Ideal S1x16x64x1024 .f32) (x1 : Vec Ideal S1x16x64x1024 .f32) (x2 : Vec Ideal S1024x1024 .bf16) (x3 : Vec Ideal S1x1024x4096 .bf16) (x4 : Vec Ideal S1x4096x1024 .bf16) (x5 x6 x7 : Vec Ideal S1x1024 .f32) (y : S1x1024x1024.Idx) (r : Fin 16) (n : Fin 64) (hr : r.val = (y 1).val % 16) (hn : n.val = (y 1).val / 16) :
    outB x0 x1 x2 x3 x4 x5 x6 x7 y = _root_.Ffn.row (fun k => x0 (ix4 0 r n k)) (fun k => x1 (ix4 0 r n k)) (fun k l => x2 (ix2 k l)) (fun k n => x3 (ix3 0 k n)) (fun n l => x4 (ix3 0 n l))
      (fun k => x5 (ix2 0 k)) (fun k => x6 (ix2 0 k)) (fun k => x7 (ix2 0 k)) (y 2) := by
  have b1 : (y 1).val < 1024 := (y 1).isLt
  unfold outB halfT
  refine (Cert.Kernel3Ideal.Ffn.tileT_apply _ _ x2 x3 x4 x5 x6 x7 _ (y 2)).trans ?_
  have key : ((y 1).val % 512 % 16 * 32 + (y 1).val % 512 / 16) % 512 = (y 1).val % 512 % 16 * 32 + (y 1).val % 512 / 16 := Nat.mod_eq_of_lt (by omega)
  have dv : ∀ A B : ℕ, B < 32 → (A * 32 + B) / 32 = A ∧ (A * 32 + B) % 32 = B := fun A B h => ⟨by omega, by omega⟩
  have hB : (y 1).val % 512 / 16 < 32 := by omega
  have h5 : (y 1).val / 512 % 2 = (y 1).val / 512 := by omega
  have h6 : (y 1).val / 16 = 32 * ((y 1).val / 512) + (y 1).val % 512 / 16 := by omega
  have e : ∀ (x : Vec Ideal S1x16x64x1024 .f32) (k : Fin 1024), half x (Fin.ofNat 2 ((y 1).val / 512)) (ix2 (Fin.ofNat 512 ((y 1).val % 512 % 16 * 32 + (y 1).val % 512 / 16)) k) = x (ix4 0 r n k) :=
    fun x k => half_apply x _ _ k r n
      (by show r.val = ((y 1).val % 512 % 16 * 32 + (y 1).val % 512 / 16) % 512 / 32; rw [key, (dv _ _ hB).1, hr]; omega)
      (by show n.val = 32 * ((y 1).val / 512 % 2) + ((y 1).val % 512 % 16 * 32 + (y 1).val % 512 / 16) % 512 % 32; rw [key, (dv _ _ hB).2, hn, h5, h6])
  have e' : ∀ (x : Vec Ideal S1x16x64x1024 .f32) (k : Fin 1024), (truncf .bf16 (half x (Fin.ofNat 2 ((y 1).val / 512))) bitsLt_bf16_f32 : FVec Ideal S512x1024 .bf16) (ix2 (Fin.ofNat 512 ((y 1).val % 512 % 16 * 32 + (y 1).val % 512 / 16)) k) = x (ix4 0 r n k) :=
    e
  simp only [e, e']

/-- The result array. -/
def G (mix x : FVec Ideal S16x16x128x1024 .f32) (wo : FVec Ideal S1024x1024 .f32) (w1 : FVec Ideal S2x1024x4096 .f32) (w2 : FVec Ideal S2x4096x1024 .f32)
    (gpost gpre gffn : FVec Ideal S1024 .f32) (i : S16x2048x1024.Idx) : EReal :=
  _root_.Ffn.row (fun k => mix (ix4 (i 0) (Fin.ofNat 16 ((i 1).val % 16)) (Fin.ofNat 128 ((i 1).val / 16)) k)) (fun k => x (ix4 (i 0) (Fin.ofNat 16 ((i 1).val % 16)) (Fin.ofNat 128 ((i 1).val / 16)) k))
    (fun k l => wo (ix2 k l)) (fun k n => w1 (ix3 1 k n)) (fun n l => w2 (ix3 1 n l)) (fun k => gpost (ix1 k)) (fun k => gpre (ix1 k)) (fun k => gffn (ix1 k)) (i 2)

variable (m : (ℓ : Loc nD τ sig) → Buf (Elt Ideal) ℓ) (ρ : Dev nD → PrngReg)

theorem idx0 : ∀ t : Fin cfg0.N, win0_0.index t (0 : Fin 4) = t.val / 2 ∧ win0_0.index t (1 : Fin 4) = 0 ∧ win0_0.index t (2 : Fin 4) = t.val % 2 ∧ win0_0.index t (3 : Fin 4) = 0 :=
  (by decide +kernel : ∀ t : Fin grid0.N, _)
theorem idx1 : ∀ t : Fin cfg0.N, win0_1.index t (0 : Fin 4) = t.val / 2 ∧ win0_1.index t (1 : Fin 4) = 0 ∧ win0_1.index t (2 : Fin 4) = t.val % 2 ∧ win0_1.index t (3 : Fin 4) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = t.val / 2 ∧ win0_8.index t (1 : Fin 3) = t.val % 2 ∧ win0_8.index t (2 : Fin 3) = 0 :=
  (by decide +kernel : ∀ t : Fin grid0.N, _)

theorem b0 (c : Dev nD) (t : Fin cfg0.N) (r : Fin 16) (n : Fin 64) (k : Fin 1024) (b : Fin 16) (q : Fin 128) (hb : b.val = t.val / 2) (hq : q.val = t.val % 2 * 64 + n.val) :
    iblk m c 0 t (ix4 0 r n k) = m ((c : Thread nD τ).loc main_arg0) (ix4 b r q k) := by
  blk_ext! [iblk, V, idx0 t]

theorem b1 (c : Dev nD) (t : Fin cfg0.N) (r : Fin 16) (n : Fin 64) (k : Fin 1024) (b : Fin 16) (q : Fin 128) (hb : b.val = t.val / 2) (hq : q.val = t.val % 2 * 64 + n.val) :
    iblk m c 1 t (ix4 0 r n k) = m ((c : Thread nD τ).loc main_arg1) (ix4 b r q k) := by
  blk_ext! [iblk, V, idx1 t]

theorem b2 (c : Dev nD) (t : Fin cfg0.N) (k l : Fin 1024) : iblk m c 2 t (ix2 k l) = m ((c : Thread nD τ).loc main_arg2) (ix2 k l) := by
  blk_ext! [iblk, V, idx2 t]

theorem b3 (c : Dev nD) (t : Fin cfg0.N) (k : Fin 1024) (n : Fin 4096) : iblk m c 3 t (ix3 0 k n) = m ((c : Thread nD τ).loc main_arg3) (ix3 1 k n) := by
  blk_ext! [iblk, V, idx3 t]

theorem b4 (c : Dev nD) (t : Fin cfg0.N) (k : Fin 1024) (n : Fin 4096) : iblk m c 4 t (ix3 0 n k) = m ((c : Thread nD τ).loc main_arg4) (ix3 1 n k) := by
  blk_ext! [iblk, V, idx4 t]

theorem b5 (c : Dev nD) (t : Fin cfg0.N) (k : Fin 1024) : iblk m c 5 t (ix2 0 k) = m ((c : Thread nD τ).loc main_arg5) (ix1 k) := by
  blk_ext! [iblk, V, idx5 t]

theorem b6 (c : Dev nD) (t : Fin cfg0.N) (k : Fin 1024) : iblk m c 6 t (ix2 0 k) = m ((c : Thread nD τ).loc main_arg6) (ix1 k) := by
  blk_ext! [iblk, V, idx6 t]

theorem b7 (c : Dev nD) (t : Fin cfg0.N) (k : Fin 1024) : iblk m c 7 t (ix2 0 k) = m ((c : Thread nD τ).loc main_arg7) (ix1 k) := by
  blk_ext! [iblk, V, idx7 t]

/-- What a point writes back is its block of the result. -/
theorem flushed8_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨e0, e1, e2⟩ := idx8 t
  have ht : t.val < 32 := t.isLt
  rw [flushed8_A, out_A]
  funext j
  have b0' : (j 0).val < 1 := (j 0).isLt
  have b1' : (j 1).val < 1024 := (j 1).isLt
  have b2' : (j 2).val < 1024 := (j 2).isLt
  have h := outB_apply (iblk m c 0 t) (iblk m c 1 t) (iblk m c 2 t) (iblk m c 3 t) (iblk m c 4 t) (iblk m c 5 t) (iblk m c 6 t) (iblk m c 7 t) j
    (Fin.ofNat 16 ((j 1).val % 16)) (Fin.ofNat 64 ((j 1).val / 16)) (by show (j 1).val % 16 % 16 = _; omega) (by show (j 1).val / 16 % 64 = _; omega)
  refine Eq.trans (show _ = outB (iblk m c 0 t) (iblk m c 1 t) (iblk m c 2 t) (iblk m c 3 t) (iblk m c 4 t) (iblk m c 5 t) (iblk m c 6 t) (iblk m c 7 t) j from rfl) (h.trans ?_)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb j)
  unfold G
  have v0 : ((((cfg0.win 8).blk t).view.emb j) 0).val = t.val / 2 := by
    show win0_8.index t (0 : Fin 3) * 1 + 1 * (j 0).val = _; omega
  have v1 : ((((cfg0.win 8).blk t).view.emb j) 1).val = t.val % 2 * 1024 + (j 1).val := by
    show win0_8.index t (1 : Fin 3) * 1024 + 1 * (j 1).val = _; omega
  have v2 : (((cfg0.win 8).blk t).view.emb j) 2 = j 2 := Fin.ext (by
    show win0_8.index t (2 : Fin 3) * 1024 + 1 * (j 2).val = (j 2).val; omega)
  have r0 : Fin.ofNat 16 (((((cfg0.win 8).blk t).view.emb j) 1).val % 16) = Fin.ofNat 16 ((j 1).val % 16) := Fin.ext (by
    show ((((cfg0.win 8).blk t).view.emb j) 1).val % 16 % 16 = (j 1).val % 16 % 16; rw [v1]; omega)
  have q0 : (Fin.ofNat 128 (((((cfg0.win 8).blk t).view.emb j) 1).val / 16)).val = t.val % 2 * 64 + (Fin.ofNat 64 ((j 1).val / 16)).val := by
    show ((((cfg0.win 8).blk t).view.emb j) 1).val / 16 % 128 = t.val % 2 * 64 + (j 1).val / 16 % 64; rw [v1]; omega
  have k0 := fun k => b0 m c t (Fin.ofNat 16 ((j 1).val % 16)) (Fin.ofNat 64 ((j 1).val / 16)) k _ _ v0 q0
  have k1 := fun k => b1 m c t (Fin.ofNat 16 ((j 1).val % 16)) (Fin.ofNat 64 ((j 1).val / 16)) k _ _ v0 q0
  simp only [k0, k1, b2 m c t, b3 m c t, b4 m c t, b5 m c t, b6 m c t, b7 m c t, v2, r0]

theorem covered8 (i : S16x2048x1024.Idx) : ∃ t : Fin cfg0.N, (cfg0.win 8).flush t = true ∧ i ∈ ((cfg0.win 8).blk t).view.set := by
  have b0' : (i 0).val < 16 := (i 0).isLt
  have b1' : (i 1).val < 2048 := (i 1).isLt
  have b2' : (i 2).val < 1024 := (i 2).isLt
  have hN : cfg0.N = 32 := rfl
  let t : Fin cfg0.N := ⟨(i 0).val * 2 + (i 1).val / 1024, by omega⟩
  have ht : t.val = (i 0).val * 2 + (i 1).val / 1024 := rfl
  refine ⟨t, flush0_8 _, ?_⟩
  obtain ⟨e0, e1, e2⟩ := idx8 t
  let j : S1x1024x1024.Idx := ix3 0 (Fin.ofNat 1024 ((i 1).val % 1024)) (i 2)
  have h := ((cfg0.win 8).blk t).view.emb_mem_set j
  have e : ((cfg0.win 8).blk t).view.emb j = i := by
    funext a
    match a with
    | ⟨0, _⟩ => exact Fin.ext (by show win0_8.index t (0 : Fin 3) * 1 + 1 * 0 = (i 0).val; omega)
    | ⟨1, _⟩ => exact Fin.ext (by show win0_8.index t (1 : Fin 3) * 1024 + 1 * ((i 1).val % 1024 % 1024) = (i 1).val; omega)
    | ⟨2, _⟩ => exact Fin.ext (by show win0_8.index t (2 : Fin 3) * 1024 + 1 * (i 2).val = (i 2).val; omega)
  rwa [e] at h

/-- The result array after the run. -/
theorem final8 (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed8_eq m c t) covered8

theorem natural_apply (a : FVec Ideal S16x16x128x1024 .f32) (b : Fin 16) (t : Fin 2048) (k : Fin 1024) :
    Cert.Reference2Ideal.Ffn.natural a (ix3 b t k) = a (ix4 b (Fin.ofNat 16 (t.val % 16)) (Fin.ofNat 128 (t.val / 16)) k) := by
  have ht := t.isLt
  unfold Cert.Reference2Ideal.Ffn.natural
  refine (shapeCast_apply _ _ (ix3 b t k) (ix4 b (Fin.ofNat 128 (t.val / 16)) (Fin.ofNat 16 (t.val % 16)) k) ?_).trans ?_
  · rw [Shape.rowMajor_val_three, Shape.rowMajor_val_four]
    show ((b.val * 128 + t.val / 16 % 128) * 16 + t.val % 16 % 16) * 1024 + k.val = (b.val * 2048 + t.val) * 1024 + k.val
    omega
  · pointwise

/-- The reference's result is the same array. -/
theorem ref_eq (mm : (ℓ : Loc Cert.Reference2Ideal.nD Cert.Reference2Ideal.τ Cert.Reference2Ideal.sig) → Buf (Elt Ideal) ℓ) (c : Dev Cert.Reference2Ideal.nD) :
    Cert.Reference2Ideal.Value.res_out0 mm c = G (mm ((c.tc : Thread Cert.Reference2Ideal.nD Cert.Reference2Ideal.τ).loc Cert.Reference2Ideal.main_arg0)) (mm ((c.tc : Thread Cert.Reference2Ideal.nD Cert.Reference2Ideal.τ).loc Cert.Reference2Ideal.main_arg1)) (mm ((c.tc : Thread Cert.Reference2Ideal.nD Cert.Reference2Ideal.τ).loc Cert.Reference2Ideal.main_arg2)) (mm ((c.tc : Thread Cert.Reference2Ideal.nD Cert.Reference2Ideal.τ).loc Cert.Reference2Ideal.main_arg3)) (mm ((c.tc : Thread Cert.Reference2Ideal.nD Cert.Reference2Ideal.τ).loc Cert.Reference2Ideal.main_arg4)) (mm ((c.tc : Thread Cert.Reference2Ideal.nD Cert.Reference2Ideal.τ).loc Cert.Reference2Ideal.main_arg5)) (mm ((c.tc : Thread Cert.Reference2Ideal.nD Cert.Reference2Ideal.τ).loc Cert.Reference2Ideal.main_arg6)) (mm ((c.tc : Thread Cert.Reference2Ideal.nD Cert.Reference2Ideal.τ).loc Cert.Reference2Ideal.main_arg7)) := by
  rw [Cert.Reference2Ideal.Ffn.res2]
  funext i
  refine Eq.trans (congrArg _ (show i = ix3 (i 0) (i 1) (i 2) from ?_)) ((Cert.Reference3Ideal.Ffn.wholeA_apply _ _ _ _ _ _ _ _ (i 0) (i 1) (i 2)).trans ?_)
  · funext a
    match a with
    | ⟨0, _⟩ => rfl
    | ⟨1, _⟩ => rfl
    | ⟨2, _⟩ => rfl
  unfold G
  congr 1
  · funext k; exact natural_apply _ _ _ _
  · funext k; exact natural_apply _ _ _ _
  · funext k n
    refine (shapeCast_apply _ _ (ix2 k n) (ix3 0 k n) ?_).trans ?_
    · rw [Shape.rowMajor_val_two, Shape.rowMajor_val_three]
      show (0 * 1024 + k.val) * 4096 + n.val = k.val * 4096 + n.val
      omega
    · pointwise
  · funext n l
    refine (shapeCast_apply _ _ (ix2 n l) (ix3 0 n l) ?_).trans ?_
    · rw [Shape.rowMajor_val_two, Shape.rowMajor_val_three]
      show (0 * 4096 + n.val) * 1024 + l.val = n.val * 1024 + l.val
      omega
    · pointwise

end Cert.Kernel2Ideal.Ffn

end
-- ==== Proof.FfnBlock3.lean ====
/- What a grid point of the first channel-mixer call leaves in its block of the result. -/
module

public import proofs.«01_k».proof.Proof.FfnTile
public import proofs.«01_k».proof.Proof.Gen.Kernel3Ideal.Value
public import Idealize.ShloMosaic.Lib.Pipeline.ReadBack
public import Idealize.ShloMosaic.Lib.Pipeline.ValueKit

@[expose] public section

set_option maxRecDepth 16384
set_option maxHeartbeats 1000000

noncomputable section

namespace Cert.Kernel3Ideal.Ffn

open Cert.Kernel3Ideal Cert.Kernel3Ideal.Gen Idealize.ShloMosaic

variable {F : FTy → Type} [FloatOps F]

theorem inbX (p : Fin 2) : ∀ a, (![0, 512 * p.val, 0] : Fin 3 → ℕ) a + S1x512x1024.size a ≤ S1x1024x1024.size a := by
  revert p; decide

/-- Half `p` of a point's 1024 rows. -/
def half {e : EltTy} (x : Vec F S1x1024x1024 e) (p : Fin 2) : S512x1024.Idx → Elt F e :=
  shapeCast S512x1024 (View.ld x (Rect.unit ![0, 512 * p.val, 0] S1x512x1024.size (inbX p))) shapeCasts_S1x512x1024_S512x1024

def halfT (x0 : Vec F S1x1024x1024 .bf16) (x1 : Vec F S1x1024x1024 .f32) (x2 : Vec F S1024x1024 .bf16) (x3 : Vec F S1x1024x4096 .bf16) (x4 : Vec F S1x4096x1024 .bf16) (x5 x6 x7 : Vec F S1x1024 .f32) (p : Fin 2) : FVec F S512x1024 .f32 :=
  tileT (half x0 p) (half x1 p) x2 x3 x4 x5 x6 x7

/-- The block a point leaves. -/
def outB (x0 : Vec F S1x1024x1024 .bf16) (x1 : Vec F S1x1024x1024 .f32) (x2 : Vec F S1024x1024 .bf16) (x3 : Vec F S1x1024x4096 .bf16) (x4 : Vec F S1x4096x1024 .bf16) (x5 x6 x7 : Vec F S1x1024 .f32) (y : S1x16x64x1024.Idx) : F .f32 :=
  halfT x0 x1 x2 x3 x4 x5 x6 x7 (Fin.ofNat 2 ((y 2).val / 32)) (ix2 (Fin.ofNat 512 ((y 2).val % 32 * 16 + (y 1).val)) (y 3))

/-- A load of every sixteenth row reads inside the last store that holds its rows. -/
theorem read_head (v : View sig .tc .vmem S8x1024x128 .f32) (c b b' : ℕ) (inb : ∀ a, (![c, b, 0] : Fin 3 → ℕ) a + (![1, 512, 128] : Fin 3 → ℕ) a ≤ S8x1024x128.size a)
    (w : (Rect.unit (s := S8x1024x128) ![c, b, 0] ![1, 512, 128] inb).shape.Idx → Elt F .f32) (L : List (View.Piece (Elt F) S8x1024x128 .f32))
    (inb' : ∀ a, (![1, 32, 128] : Fin 3 → ℕ) a = 0 ∨ (![c, b', 0] : Fin 3 → ℕ) a + (![1, 16, 1] : Fin 3 → ℕ) a * ((![1, 32, 128] : Fin 3 → ℕ) a - 1) < S8x1024x128.size a)
    (h : b ≤ b' ∧ b' < b + 16) :
    v.readCov (⟨Rect.unit (s := S8x1024x128) ![c, b, 0] ![1, 512, 128] inb, w⟩ :: L) (⟨![c, b', 0], ![1, 32, 128], ![1, 16, 1], inb'⟩ : LoadRect S8x1024x128)
      = fun j => w (ix3 0 (Fin.ofNat 512 (b' - b + 16 * (j 1).val)) (j 2)) := by
  rw [View.readCov_eq_canon']
  funext j
  have b1 : (j 1).val < 32 := (j 1).isLt
  rw [← View.canon_cons_emb (Rect.unit (s := S8x1024x128) ![c, b, 0] ![1, 512, 128] inb) w L]
  congr 1
  funext a
  match a with
  | ⟨0, _⟩ => exact Fin.ext (by have : (j 0).val < 1 := (j 0).isLt; show c + 1 * (j 0).val = c + 1 * 0; omega)
  | ⟨1, _⟩ => exact Fin.ext (by show b' + 16 * (j 1).val = b + 1 * ((b' - b + 16 * (j 1).val) % 512); omega)
  | ⟨2, _⟩ => rfl

/-- A tile, from the four column blocks of the first matrix. -/
def tileV (mix : Vec F S1x512x1024 .bf16) (x : Vec F S1x512x1024 .f32) (wo : Vec F S1024x1024 .bf16) (a b c d : Vec F S1x1024x1024 .bf16) (w2 : Vec F S1x4096x1024 .bf16)
    (gpost gpre gffn : Vec F S1x1024 .f32) : FVec F S512x1024 .f32 :=
  let m := midT (shapeCast S512x1024 mix shapeCasts_S1x512x1024_S512x1024) (shapeCast S512x1024 x shapeCasts_S1x512x1024_S512x1024) wo gpost
  let h := preT m gpre
  outT m (concatenate S512x4096 1 [⟨S512x1024, reluT h a⟩, ⟨S512x1024, reluT h b⟩, ⟨S512x1024, reluT h c⟩, ⟨S512x1024, reluT h d⟩] concatenates_S512x1024_S512x1024_S512x1024_S512x1024_S512x4096_d1) w2 gffn

theorem tile0 (x : Vec F S1x512x1024 .f32) (mix : Vec F S1x512x1024 .bf16) (wo : Vec F S1024x1024 .bf16) (a b c d : Vec F S1x1024x1024 .bf16) (w2 : Vec F S1x4096x1024 .bf16) (gpost gpre gffn : Vec F S1x1024 .f32) :
    k0_pay11 (k0_pay2 x mix wo gpost) (k0_pay7 (k0_pay3 x mix wo gpost gpre) (k0_pay6 a) (constant S512x1024 .f32 0x00000000#32) b c d w2) (k0_pay8 gffn)
      (k0_pay9 (k0_pay3 x mix wo gpost gpre) (k0_pay6 a) (constant S512x1024 .f32 0x00000000#32) b c d w2) k0_pay10 = tileV mix x wo a b c d w2 gpost gpre gffn := rfl

theorem tile0' (x : Vec F S1x512x1024 .f32) (mix : Vec F S1x512x1024 .bf16) (wo : Vec F S1024x1024 .bf16) (a b c d : Vec F S1x1024x1024 .bf16) (w2 : Vec F S1x4096x1024 .bf16) (gpost gpre gffn : Vec F S1x1024 .f32) :
    k0_pay12 (k0_pay2 x mix wo gpost) (k0_pay7 (k0_pay3 x mix wo gpost gpre) (k0_pay6 a) (constant S512x1024 .f32 0x00000000#32) b c d w2) (k0_pay8 gffn)
      (k0_pay9 (k0_pay3 x mix wo gpost gpre) (k0_pay6 a) (constant S512x1024 .f32 0x00000000#32) b c d w2) k0_pay10
      = shapeCast S1x512x128 (extractStridedSlice S512x128 ![0, 0] (tileV mix x wo a b c d w2 gpost gpre gffn) slices_S512x1024_o0_0_S512x128) shapeCasts_S512x128_S1x512x128 := rfl

theorem tile1 (x : Vec F S1x512x1024 .f32) (mix : Vec F S1x512x1024 .bf16) (wo : Vec F S1024x1024 .bf16) (a b c d : Vec F S1x1024x1024 .bf16) (w2 : Vec F S1x4096x1024 .bf16) (gpost gpre gffn : Vec F S1x1024 .f32) :
    k0_pay166 (k0_pay4 x mix wo gpost) (k0_pay163 (k0_pay5 x mix wo gpost gpre) a b c d w2) (k0_pay164 gffn) (k0_pay165 (k0_pay5 x mix wo gpost gpre) a b c d w2)
      = tileV mix x wo a b c d w2 gpost gpre gffn := rfl

theorem tile1' (x : Vec F S1x512x1024 .f32) (mix : Vec F S1x512x1024 .bf16) (wo : Vec F S1024x1024 .bf16) (a b c d : Vec F S1x1024x1024 .bf16) (w2 : Vec F S1x4096x1024 .bf16) (gpost gpre gffn : Vec F S1x1024 .f32) :
    k0_pay167 (k0_pay4 x mix wo gpost) (k0_pay163 (k0_pay5 x mix wo gpost gpre) a b c d w2) (k0_pay164 gffn) (k0_pay165 (k0_pay5 x mix wo gpost gpre) a b c d w2)
      = shapeCast S1x512x128 (extractStridedSlice S512x128 ![0, 0] (tileV mix x wo a b c d w2 gpost gpre gffn) slices_S512x1024_o0_0_S512x128) shapeCasts_S512x128_S1x512x128 := rfl

theorem half0 (x0 : Vec F S1x1024x1024 .bf16) (x1 : Vec F S1x1024x1024 .f32) (x2 : Vec F S1024x1024 .bf16) (x3 : Vec F S1x1024x4096 .bf16) (x4 : Vec F S1x4096x1024 .bf16) (x5 x6 x7 : Vec F S1x1024 .f32) :
    tileV (View.ld x0 (Rect.unit ![0, 0, 0] ![1, 512, 1024] inb_S1x1024x1024_S1x512x1024_0_0_0)) (View.ld x1 (Rect.unit ![0, 0, 0] ![1, 512, 1024] inb_S1x1024x1024_S1x512x1024_0_0_0))
      (View.ld x2 (Rect.unit ![0, 0] ![1024, 1024] inb_S1024x1024_S1024x1024_0_0))
      (View.ld x3 (Rect.unit ![0, 0, 0] ![1, 1024, 1024] inb_S1x1024x4096_S1x1024x1024_0_0_0)) (View.ld x3 (Rect.unit ![0, 0, 1024] ![1, 1024, 1024] inb_S1x1024x4096_S1x1024x1024_0_0_1024))
      (View.ld x3 (Rect.unit ![0, 0, 2048] ![1, 1024, 1024] inb_S1x1024x4096_S1x1024x1024_0_0_2048)) (View.ld x3 (Rect.unit ![0, 0, 3072] ![1, 1024, 1024] inb_S1x1024x4096_S1x1024x1024_0_0_3072))
      (View.ld x4 (Rect.unit ![0, 0, 0] ![1, 4096, 1024] inb_S1x4096x1024_S1x4096x1024_0_0_0))
      (View.ld x5 (Rect.unit ![0, 0] ![1, 1024] inb_S1x1024_S1x1024_0_0)) (View.ld x6 (Rect.unit ![0, 0] ![1, 1024] inb_S1x1024_S1x1024_0_0)) (View.ld x7 (Rect.unit ![0, 0] ![1, 1024] inb_S1x1024_S1x1024_0_0))
      = halfT x0 x1 x2 x3 x4 x5 x6 x7 0 := by
  have e2 : View.ld x2 (Rect.unit ![0, 0] ![1024, 1024] inb_S1024x1024_S1024x1024_0_0) = x2 := View.ld_unit_lit' _ _ (by decide)
  have e4 : View.ld x4 (Rect.unit ![0, 0, 0] ![1, 4096, 1024] inb_S1x4096x1024_S1x4096x1024_0_0_0) = x4 := View.ld_unit_lit' _ _ (by decide)
  have e5 : ∀ z : Vec F S1x1024 .f32, View.ld z (Rect.unit ![0, 0] ![1, 1024] inb_S1x1024_S1x1024_0_0) = z := fun z => View.ld_unit_lit' _ z (by decide)
  rw [e2, e4, e5 x5, e5 x6, e5 x7]
  rfl

theorem half1 (x0 : Vec F S1x1024x1024 .bf16) (x1 : Vec F S1x1024x1024 .f32) (x2 : Vec F S1024x1024 .bf16) (x3 : Vec F S1x1024x4096 .bf16) (x4 : Vec F S1x4096x1024 .bf16) (x5 x6 x7 : Vec F S1x1024 .f32) :
    tileV (View.ld x0 (Rect.unit ![0, 512, 0] ![1, 512, 1024] inb_S1x1024x1024_S1x512x1024_0_512_0)) (View.ld x1 (Rect.unit ![0, 512, 0] ![1, 512, 1024] inb_S1x1024x1024_S1x512x1024_0_512_0))
      (View.ld x2 (Rect.unit ![0, 0] ![1024, 1024] inb_S1024x1024_S1024x1024_0_0))
      (View.ld x3 (Rect.unit ![0, 0, 0] ![1, 1024, 1024] inb_S1x1024x4096_S1x1024x1024_0_0_0)) (View.ld x3 (Rect.unit ![0, 0, 1024] ![1, 1024, 1024] inb_S1x1024x4096_S1x1024x1024_0_0_1024))
      (View.ld x3 (Rect.unit ![0, 0, 2048] ![1, 1024, 1024] inb_S1x1024x4096_S1x1024x1024_0_0_2048)) (View.ld x3 (Rect.unit ![0, 0, 3072] ![1, 1024, 1024] inb_S1x1024x4096_S1x1024x1024_0_0_3072))
      (View.ld x4 (Rect.unit ![0, 0, 0] ![1, 4096, 1024] inb_S1x4096x1024_S1x4096x1024_0_0_0))
      (View.ld x5 (Rect.unit ![0, 0] ![1, 1024] inb_S1x1024_S1x1024_0_0)) (View.ld x6 (Rect.unit ![0, 0] ![1, 1024] inb_S1x1024_S1x1024_0_0)) (View.ld x7 (Rect.unit ![0, 0] ![1, 1024] inb_S1x1024_S1x1024_0_0))
      = halfT x0 x1 x2 x3 x4 x5 x6 x7 1 := by
  have e2 : View.ld x2 (Rect.unit ![0, 0] ![1024, 1024] inb_S1024x1024_S1024x1024_0_0) = x2 := View.ld_unit_lit' _ _ (by decide)
  have e4 : View.ld x4 (Rect.unit ![0, 0, 0] ![1, 4096, 1024] inb_S1x4096x1024_S1x4096x1024_0_0_0) = x4 := View.ld_unit_lit' _ _ (by decide)
  have e5 : ∀ z : Vec F S1x1024 .f32, View.ld z (Rect.unit ![0, 0] ![1, 1024] inb_S1x1024_S1x1024_0_0) = z := fun z => View.ld_unit_lit' _ z (by decide)
  rw [e2, e4, e5 x5, e5 x6, e5 x7]
  rfl

/-- Thirty-two rows of one residue and 128 columns. -/
theorem piece {x0 : Vec F S1x1024x1024 .bf16} {x1 : Vec F S1x1024x1024 .f32} {x2 : Vec F S1024x1024 .bf16} {x3 : Vec F S1x1024x4096 .bf16} {x4 : Vec F S1x4096x1024 .bf16} {x5 x6 x7 : Vec F S1x1024 .f32} (p : Fin 2) {r b cc rb : ℕ}
    {inb : ∀ a, (![0, r, b, cc] : Fin 4 → ℕ) a + (![1, 1, 32, 128] : Fin 4 → ℕ) a ≤ S1x16x64x1024.size a}
    {hs : S512x1024.Slices ![0, cc] S512x128} {hc : S512x128.ShapeCasts S1x512x128} {hc1 : S1x32x128.ShapeCasts S32x128} {hc2 : S32x128.ShapeCasts S1x1x32x128} {w : FVec F S1x1x32x128 .f32}
    (hw : w = shapeCast S1x1x32x128 (shapeCast S32x128 (fun j : S1x32x128.Idx => shapeCast S1x512x128 (extractStridedSlice S512x128 ![0, cc] (halfT x0 x1 x2 x3 x4 x5 x6 x7 p) hs) hc
        (ix3 0 (Fin.ofNat 512 (rb + 16 * (j 1).val)) (j 2))) hc1) hc2)
    (hr : rb = r ∧ r < 16 ∧ b = 32 * p.val ∧ cc + 128 ≤ 1024) (x : S1x1x32x128.Idx) :
    w x = outB x0 x1 x2 x3 x4 x5 x6 x7 ((Rect.unit (s := S1x16x64x1024) ![0, r, b, cc] ![1, 1, 32, 128] inb).emb x) := by
  obtain ⟨rfl, h1, rfl, h3⟩ := hr
  have b0 : (x 0).val < 1 := (x 0).isLt
  have b1 : (x 1).val < 1 := (x 1).isLt
  have b2 : (x 2).val < 32 := (x 2).isLt
  have b3 : (x 3).val < 128 := (x 3).isLt
  have bp : p.val < 2 := p.isLt
  rw [hw]
  have c2 : ∀ v : FVec F S32x128 .f32, shapeCast S1x1x32x128 v hc2 x = v (ix2 (x 2) (x 3)) := fun v => by
    refine shapeCast_apply _ _ _ _ ?_
    rw [Shape.rowMajor_val_two, Shape.rowMajor_val_four]
    show (x 2).val * 128 + (x 3).val = (((x 0).val * 1 + (x 1).val) * 32 + (x 2).val) * 128 + (x 3).val
    omega
  have c1 : ∀ v : Vec F S1x32x128 .f32, shapeCast S32x128 v hc1 (ix2 (x 2) (x 3)) = v (ix3 0 (x 2) (x 3)) := fun v => by
    refine shapeCast_apply _ _ _ _ ?_
    rw [Shape.rowMajor_val_two, Shape.rowMajor_val_three]
    show (0 * 32 + (x 2).val) * 128 + (x 3).val = (x 2).val * 128 + (x 3).val
    omega
  rw [c2, c1]
  show shapeCast S1x512x128 _ hc (ix3 0 (Fin.ofNat 512 (rb + 16 * (x 2).val)) (x 3)) = _
  have c0 : ∀ (v : FVec F S512x128 .f32) (q : Fin 512), shapeCast S1x512x128 v hc (ix3 0 q (x 3)) = v (ix2 q (x 3)) := fun v q => by
    refine shapeCast_apply _ _ _ _ ?_
    rw [Shape.rowMajor_val_two, Shape.rowMajor_val_three]
    show q.val * 128 + (x 3).val = (0 * 512 + q.val) * 128 + (x 3).val
    omega
  rw [c0]
  unfold outB
  have e0 : Fin.ofNat 2 ((((Rect.unit (s := S1x16x64x1024) ![0, rb, 32 * p.val, cc] ![1, 1, 32, 128] inb).emb x) 2).val / 32) = p :=
    Fin.ext (by show (32 * p.val + 1 * (x 2).val) / 32 % 2 = p.val; omega)
  rw [e0]
  show halfT x0 x1 x2 x3 x4 x5 x6 x7 p _ = halfT x0 x1 x2 x3 x4 x5 x6 x7 p _
  congr 1
  funext a
  match a with
  | ⟨0, _⟩ => exact Fin.ext (by
      show 0 + (rb + 16 * (x 2).val) % 512 = ((32 * p.val + 1 * (x 2).val) % 32 * 16 + (rb + 1 * (x 1).val)) % 512
      omega)
  | ⟨1, _⟩ => exact Fin.ext (by
      show cc + (x 3).val = cc + 1 * (x 3).val
      omega)

set_option maxHeartbeats 8000000 in
theorem out_A  (c : Dev nD) (i : grid0.Coords) (arg2 : Memref sig .tc .vmem S1x1024x1024 .bf16) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x4096x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x16x64x1024 .f32) (harg10 : arg10.IsWhole) (arg11 : Memref sig .tc .vmem S8x1024x128 .f32) (harg11 : arg11.IsWhole)
    (x0 : Vec F S1x1024x1024 .bf16) (x1 : Vec F S1x1024x1024 .f32) (x2 : Vec F S1024x1024 .bf16) (x3 : Vec F S1x1024x4096 .bf16) (x4 : Vec F S1x4096x1024 .bf16) (x5 : Vec F S1x1024 .f32) (x6 : Vec F S1x1024 .f32) (x7 : Vec F S1x1024 .f32) :
    out0_A_8 c i arg2 harg2 arg3 harg3 arg4 harg4 arg5 harg5 arg6 harg6 arg7 harg7 arg8 harg8 arg9 harg9 arg10 harg10 arg11 harg11 x0 x1 x2 x3 x4 x5 x6 x7 = outB x0 x1 x2 x3 x4 x5 x6 x7 := by
  funext y
  frame_open
  simp (disch := decide) only [↓ View.readCov_skip, ↓ View.readCov_cons_toLoadRect, ↓ View.readCov_fill]
  simp (disch := decide) only [↓ read_head]
  simp only [tile0, tile0', tile1, tile1', View.readAt_eq_ld, harg2.read_unread, harg3.read_unread, harg4.read_unread, harg5.read_unread, harg6.read_unread, harg7.read_unread, harg8.read_unread, harg9.read_unread, View.read_writes_junk_eq_canon]
  simp only [half0, half1]
  refine View.canon_apply_of_pieces (Val := Elt F) (e := .f32) (outB x0 x1 x2 x3 x4 x5 x6 x7) _ (View.PiecesOf.mem ?_) y ?_
  · iterate 128 refine ⟨piece 1 (inb := by decide) (hs := by decide) rfl (by decide), ?_⟩
    iterate 128 refine ⟨piece 0 (inb := by decide) (hs := by decide) rfl (by decide), ?_⟩
    trivial
  · exact View.cover_of_tiledL (s := S1x16x64x1024) _ S1x1x32x128.size (by sl_kernel_rfl) y

end Cert.Kernel3Ideal.Ffn

end
-- ==== Proof.FfnArr3.lean ====
/- The result array of the first channel-mixer call, as one function of the arguments, and its equality with the reference's. -/
module

public import proofs.«01_k».proof.Proof.FfnBlock3
public import proofs.«01_k».proof.Proof.FfnRef
public import Idealize.ShloMosaic.Lib.Pipeline.ValueKit.Point
public import Idealize.ShloMosaic.Lib.Pointwise

@[expose] public section

set_option maxRecDepth 16384
set_option maxHeartbeats 1000000

noncomputable section

namespace Cert.Kernel3Ideal.Ffn

open Cert.Kernel3Ideal Cert.Kernel3Ideal.Gen Cert.Kernel3Ideal.Value Idealize.ShloMosaic Idealize.ShloMosaic.TcCoe Idealize.SL.Sem

theorem half_apply {e : EltTy} (x : Vec Ideal S1x1024x1024 e) (p : Fin 2) (q : Fin 512) (k : Fin 1024) (n : Fin 1024) (hn : n.val = 512 * p.val + q.val) :
    half x p (ix2 q k) = x (ix3 0 n k) := by
  unfold half
  rw [shapeCast_apply _ _ (ix2 q k) (ix3 0 q k) (by
    rw [Shape.rowMajor_val_two, Shape.rowMajor_val_three]
    show (0 * 512 + q.val) * 1024 + k.val = q.val * 1024 + k.val
    omega)]
  show x _ = x _
  congr 1
  funext a
  match a with
  | ⟨0, _⟩ => rfl
  | ⟨1, _⟩ => exact Fin.ext (by show 512 * p.val + 1 * q.val = n.val; omega)
  | ⟨2, _⟩ => exact Fin.ext (by show 0 + 1 * k.val = k.val; omega)

theorem outB_apply (x0 : Vec Ideal S1x1024x1024 .bf16) (x1 : Vec Ideal S1x1024x1024 .f32) (x2 : Vec Ideal S1024x1024 .bf16) (x3 : Vec Ideal S1x1024x4096 .bf16) (x4 : Vec Ideal S1x4096x1024 .bf16) (x5 x6 x7 : Vec Ideal S1x1024 .f32) (y : S1x16x64x1024.Idx) (n : Fin 1024) (hn : n.val = (y 2).val * 16 + (y 1).val) :
    outB x0 x1 x2 x3 x4 x5 x6 x7 y = _root_.Ffn.row (fun k => x0 (ix3 0 n k)) (fun k => x1 (ix3 0 n k)) (fun k l => x2 (ix2 k l)) (fun k n => x3 (ix3 0 k n)) (fun n l => x4 (ix3 0 n l))
      (fun k => x5 (ix2 0 k)) (fun k => x6 (ix2 0 k)) (fun k => x7 (ix2 0 k)) (y 3) := by
  have b1 : (y 1).val < 16 := (y 1).isLt
  have b2 : (y 2).val < 64 := (y 2).isLt
  unfold outB halfT
  refine (tileT_apply _ _ x2 x3 x4 x5 x6 x7 _ (y 3)).trans ?_
  have e : ∀ {e : EltTy} (x : Vec Ideal S1x1024x1024 e) (k : Fin 1024), half x (Fin.ofNat 2 ((y 2).val / 32)) (ix2 (Fin.ofNat 512 ((y 2).val % 32 * 16 + (y 1).val)) k) = x (ix3 0 n k) :=
    fun x k => half_apply x _ _ k n (by
      show n.val = 512 * ((y 2).val / 32 % 2) + ((y 2).val % 32 * 16 + (y 1).val) % 512
      omega)
  simp only [e]

/-- The result array. -/
def G (mix : FVec Ideal S16x2048x1024 .bf16) (x : FVec Ideal S16x2048x1024 .f32) (wo : FVec Ideal S1024x1024 .f32) (w1 : FVec Ideal S2x1024x4096 .f32) (w2 : FVec Ideal S2x4096x1024 .f32)
    (gpost gpre gffn : FVec Ideal S1024 .f32) (i : S16x16x128x1024.Idx) : EReal :=
  _root_.Ffn.row (fun k => mix (ix3 (i 0) (Fin.ofNat 2048 ((i 2).val * 16 + (i 1).val)) k)) (fun k => x (ix3 (i 0) (Fin.ofNat 2048 ((i 2).val * 16 + (i 1).val)) k))
    (fun k l => wo (ix2 k l)) (fun k n => w1 (ix3 0 k n)) (fun n l => w2 (ix3 0 n l)) (fun k => gpost (ix1 k)) (fun k => gpre (ix1 k)) (fun k => gffn (ix1 k)) (i 3)

variable (m : (ℓ : Loc nD τ sig) → Buf (Elt Ideal) ℓ) (ρ : Dev nD → PrngReg)

theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 4) = t.val / 2 ∧ win0_8.index t (1 : Fin 4) = 0 ∧ win0_8.index t (2 : Fin 4) = t.val % 2 ∧ win0_8.index t (3 : Fin 4) = 0 :=
  (by decide +kernel : ∀ t : Fin grid0.N, _)

theorem b0 (c : Dev nD) (t : Fin cfg0.N) (n k : Fin 1024) (b : Fin 16) (q : Fin 2048) (hb : b.val = t.val / 2) (hq : q.val = t.val % 2 * 1024 + n.val) :
    iblk m c 0 t (ix3 0 n k) = m ((c : Thread nD τ).loc main_arg0) (ix3 b q k) := by
  blk_ext! [iblk, V, idx0 t]

theorem b1 (c : Dev nD) (t : Fin cfg0.N) (n k : Fin 1024) (b : Fin 16) (q : Fin 2048) (hb : b.val = t.val / 2) (hq : q.val = t.val % 2 * 1024 + n.val) :
    iblk m c 1 t (ix3 0 n k) = m ((c : Thread nD τ).loc main_arg1) (ix3 b q k) := by
  blk_ext! [iblk, V, idx1 t]

theorem b2 (c : Dev nD) (t : Fin cfg0.N) (k l : Fin 1024) : iblk m c 2 t (ix2 k l) = m ((c : Thread nD τ).loc main_arg2) (ix2 k l) := by
  blk_ext! [iblk, V, idx2 t]

theorem b3 (c : Dev nD) (t : Fin cfg0.N) (k : Fin 1024) (n : Fin 4096) : iblk m c 3 t (ix3 0 k n) = m ((c : Thread nD τ).loc main_arg3) (ix3 0 k n) := by
  blk_ext! [iblk, V, idx3 t]

theorem b4 (c : Dev nD) (t : Fin cfg0.N) (k : Fin 1024) (n : Fin 4096) : iblk m c 4 t (ix3 0 n k) = m ((c : Thread nD τ).loc main_arg4) (ix3 0 n k) := by
  blk_ext! [iblk, V, idx4 t]

theorem b5 (c : Dev nD) (t : Fin cfg0.N) (k : Fin 1024) : iblk m c 5 t (ix2 0 k) = m ((c : Thread nD τ).loc main_arg5) (ix1 k) := by
  blk_ext! [iblk, V, idx5 t]

theorem b6 (c : Dev nD) (t : Fin cfg0.N) (k : Fin 1024) : iblk m c 6 t (ix2 0 k) = m ((c : Thread nD τ).loc main_arg6) (ix1 k) := by
  blk_ext! [iblk, V, idx6 t]

theorem b7 (c : Dev nD) (t : Fin cfg0.N) (k : Fin 1024) : iblk m c 7 t (ix2 0 k) = m ((c : Thread nD τ).loc main_arg7) (ix1 k) := by
  blk_ext! [iblk, V, idx7 t]

/-- What a point writes back is its block of the result. -/
theorem flushed8_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨e0, e1, e2, e3⟩ := idx8 t
  have ht : t.val < 32 := t.isLt
  rw [flushed8_A, out_A]
  funext j
  have b0' : (j 0).val < 1 := (j 0).isLt
  have b1' : (j 1).val < 16 := (j 1).isLt
  have b2' : (j 2).val < 64 := (j 2).isLt
  have b3' : (j 3).val < 1024 := (j 3).isLt
  have h := outB_apply (iblk m c 0 t) (iblk m c 1 t) (iblk m c 2 t) (iblk m c 3 t) (iblk m c 4 t) (iblk m c 5 t) (iblk m c 6 t) (iblk m c 7 t) j
    (Fin.ofNat 1024 ((j 2).val * 16 + (j 1).val)) (by show ((j 2).val * 16 + (j 1).val) % 1024 = _; omega)
  refine Eq.trans (show _ = outB (iblk m c 0 t) (iblk m c 1 t) (iblk m c 2 t) (iblk m c 3 t) (iblk m c 4 t) (iblk m c 5 t) (iblk m c 6 t) (iblk m c 7 t) j from rfl) (h.trans ?_)
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb j)
  unfold G
  have v0 : ((((cfg0.win 8).blk t).view.emb j) 0).val = t.val / 2 := by
    show win0_8.index t (0 : Fin 4) * 1 + 1 * (j 0).val = _; omega
  have v1 : ((((cfg0.win 8).blk t).view.emb j) 1).val = (j 1).val := by
    show win0_8.index t (1 : Fin 4) * 16 + 1 * (j 1).val = _; omega
  have v2 : ((((cfg0.win 8).blk t).view.emb j) 2).val = t.val % 2 * 64 + (j 2).val := by
    show win0_8.index t (2 : Fin 4) * 64 + 1 * (j 2).val = _; omega
  have v3 : (((cfg0.win 8).blk t).view.emb j) 3 = j 3 := Fin.ext (by
    show win0_8.index t (3 : Fin 4) * 1024 + 1 * (j 3).val = (j 3).val; omega)
  have hq : ∀ n : Fin 1024, n = Fin.ofNat 1024 ((j 2).val * 16 + (j 1).val) →
      (Fin.ofNat 2048 (((((cfg0.win 8).blk t).view.emb j) 2).val * 16 + ((((cfg0.win 8).blk t).view.emb j) 1).val)).val = t.val % 2 * 1024 + n.val := fun n hn => by
    rw [hn]
    show (((((cfg0.win 8).blk t).view.emb j) 2).val * 16 + ((((cfg0.win 8).blk t).view.emb j) 1).val) % 2048 = t.val % 2 * 1024 + ((j 2).val * 16 + (j 1).val) % 1024
    rw [v1, v2]
    omega
  have k0 := fun k => b0 m c t (Fin.ofNat 1024 ((j 2).val * 16 + (j 1).val)) k _ _ v0 (hq _ rfl)
  have k1 := fun k => b1 m c t (Fin.ofNat 1024 ((j 2).val * 16 + (j 1).val)) k _ _ v0 (hq _ rfl)
  simp only [k0, k1, b2 m c t, b3 m c t, b4 m c t, b5 m c t, b6 m c t, b7 m c t, v3]

theorem covered8 (i : S16x16x128x1024.Idx) : ∃ t : Fin cfg0.N, (cfg0.win 8).flush t = true ∧ i ∈ ((cfg0.win 8).blk t).view.set := by
  have b0' : (i 0).val < 16 := (i 0).isLt
  have b1' : (i 1).val < 16 := (i 1).isLt
  have b2' : (i 2).val < 128 := (i 2).isLt
  have b3' : (i 3).val < 1024 := (i 3).isLt
  have hN : cfg0.N = 32 := rfl
  let t : Fin cfg0.N := ⟨(i 0).val * 2 + (i 2).val / 64, by omega⟩
  have ht : t.val = (i 0).val * 2 + (i 2).val / 64 := rfl
  refine ⟨t, flush0_8 _, ?_⟩
  obtain ⟨e0, e1, e2, e3⟩ := idx8 t
  let j : S1x16x64x1024.Idx := ix4 0 (i 1) (Fin.ofNat 64 ((i 2).val % 64)) (i 3)
  have h := ((cfg0.win 8).blk t).view.emb_mem_set j
  have e : ((cfg0.win 8).blk t).view.emb j = i := by
    funext a
    match a with
    | ⟨0, _⟩ => exact Fin.ext (by show win0_8.index t (0 : Fin 4) * 1 + 1 * 0 = (i 0).val; omega)
    | ⟨1, _⟩ => exact Fin.ext (by show win0_8.index t (1 : Fin 4) * 16 + 1 * (i 1).val = (i 1).val; omega)
    | ⟨2, _⟩ => exact Fin.ext (by show win0_8.index t (2 : Fin 4) * 64 + 1 * ((i 2).val % 64 % 64) = (i 2).val; omega)
    | ⟨3, _⟩ => exact Fin.ext (by show win0_8.index t (3 : Fin 4) * 1024 + 1 * (i 3).val = (i 3).val; omega)
  rwa [e] at h

/-- The result array after the run. -/
theorem final8 (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed8_eq m c t) covered8

/-- The reference's result is the same array. -/
theorem ref_eq (mm : (ℓ : Loc Cert.Reference3Ideal.nD Cert.Reference3Ideal.τ Cert.Reference3Ideal.sig) → Buf (Elt Ideal) ℓ) (c : Dev Cert.Reference3Ideal.nD) :
    Cert.Reference3Ideal.Value.res_out0 mm c = G (mm ((c.tc : Thread Cert.Reference3Ideal.nD Cert.Reference3Ideal.τ).loc Cert.Reference3Ideal.main_arg0)) (mm ((c.tc : Thread Cert.Reference3Ideal.nD Cert.Reference3Ideal.τ).loc Cert.Reference3Ideal.main_arg1)) (mm ((c.tc : Thread Cert.Reference3Ideal.nD Cert.Reference3Ideal.τ).loc Cert.Reference3Ideal.main_arg2)) (mm ((c.tc : Thread Cert.Reference3Ideal.nD Cert.Reference3Ideal.τ).loc Cert.Reference3Ideal.main_arg3)) (mm ((c.tc : Thread Cert.Reference3Ideal.nD Cert.Reference3Ideal.τ).loc Cert.Reference3Ideal.main_arg4)) (mm ((c.tc : Thread Cert.Reference3Ideal.nD Cert.Reference3Ideal.τ).loc Cert.Reference3Ideal.main_arg5)) (mm ((c.tc : Thread Cert.Reference3Ideal.nD Cert.Reference3Ideal.τ).loc Cert.Reference3Ideal.main_arg6)) (mm ((c.tc : Thread Cert.Reference3Ideal.nD Cert.Reference3Ideal.τ).loc Cert.Reference3Ideal.main_arg7)) := by
  rw [Cert.Reference3Ideal.Ffn.res3]
  funext i
  have b1' : (i 1).val < 16 := (i 1).isLt
  have b2' : (i 2).val < 128 := (i 2).isLt
  refine Eq.trans (shapeCast_apply _ _ _ (ix3 (i 0) (Fin.ofNat 2048 ((i 2).val * 16 + (i 1).val)) (i 3)) ?_) ?_
  · rw [Shape.rowMajor_val_three, Shape.rowMajor_val_four]
    show ((i 0).val * 2048 + ((i 2).val * 16 + (i 1).val) % 2048) * 1024 + (i 3).val = (((i 0).val * 128 + (i 2).val) * 16 + (i 1).val) * 1024 + (i 3).val
    omega
  refine (Cert.Reference3Ideal.Ffn.wholeA_apply _ _ _ _ _ _ _ _ (i 0) (Fin.ofNat 2048 ((i 2).val * 16 + (i 1).val)) (i 3)).trans ?_
  unfold G
  congr 1
  · funext k n
    refine (shapeCast_apply _ _ (ix2 k n) (ix3 0 k n) ?_).trans ?_
    · rw [Shape.rowMajor_val_two, Shape.rowMajor_val_three]
      show (0 * 1024 + k.val) * 4096 + n.val = k.val * 4096 + n.val
      omega
    · pointwise
  · funext n l
    refine (shapeCast_apply _ _ (ix2 n l) (ix3 0 n l) ?_).trans ?_
    · rw [Shape.rowMajor_val_two, Shape.rowMajor_val_three]
      show (0 * 4096 + n.val) * 1024 + l.val = n.val * 1024 + l.val
      omega
    · pointwise

end Cert.Kernel3Ideal.Ffn

end
-- ==== Proof.Proj4.lean ====
/- The normalisation and input projection: what the call computes of one token, its result array, and the reference's. -/
module

public import proofs.«01_k».proof.Proof.FfnRef
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ValueKit.Point

@[expose] public section

set_option maxRecDepth 16384
set_option maxHeartbeats 1000000

noncomputable section

namespace Cert.Kernel4Ideal.Proj

open Cert.Kernel4Ideal Cert.Kernel4Ideal.Gen Cert.Kernel4Ideal.Value Idealize.ShloMosaic Idealize.ShloMosaic.TcCoe Idealize.SL.Sem

/-- A token's row of the projection. -/
def row (x g : Fin 1024 → EReal) (w : Fin 1024 → Fin 3072 → EReal) : Fin 3072 → EReal := _root_.Ffn.dot (_root_.Ffn.rms x g) w

theorem tile_apply (x : Vec Ideal S1024x1024 .f32) (g : Vec Ideal S1x1024 .f32) (w : Vec Ideal S1024x3072 .bf16) (r : Fin 1024) (j : Fin 3072) :
    k0_pay1 x g w (ix2 r j) = row (fun k => x (ix2 r k)) (fun k => g (ix2 0 k)) (fun k l => w (ix2 k l)) j := by
  unfold row _root_.Ffn.dot
  pointwise [k0_pay1, _root_.Ffn.rms]

theorem out_eq (x : Vec Ideal S1024x1024 .f32) (g : Vec Ideal S1x1024 .f32) (w : Vec Ideal S1024x3072 .bf16) : out0_3 x g w = k0_pay1 x g w := by
  unfold out0_3
  rw [View.ld_unit_lit' (Val := Elt Ideal) inb_S1024x1024_S1024x1024_0_0 x (by decide), View.ld_unit_lit' (Val := Elt Ideal) inb_S1x1024_S1x1024_0_0 g (by decide),
    View.ld_unit_lit' (Val := Elt Ideal) inb_S1024x3072_S1024x3072_0_0 w (by decide)]
  exact View.canon_cons_unit_lit' _ _ _ (by decide)

/-- The result array. -/
def G (x : FVec Ideal S16x2048x1024 .f32) (g : FVec Ideal S1024 .f32) (w : FVec Ideal S1024x3072 .f32) (i : S32768x3072.Idx) : EReal :=
  row (fun k => x (ix3 (Fin.ofNat 16 ((i 0).val / 2048)) (Fin.ofNat 2048 ((i 0).val % 2048)) k)) (fun k => g (ix1 k)) (fun k l => w (ix2 k l)) (i 1)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem b0 (c : Dev nD) (t : Fin cfg0.N) (n k : Fin 1024) (b : Fin 16) (q : Fin 2048) (hb : b.val = t.val / 2) (hq : q.val = t.val % 2 * 1024 + n.val) :
    iblk m c 0 t (ix2 n k) = m ((c : Thread nD τ).loc main_arg0) (ix3 b q k) := by
  blk_ext! [iblk, V, idx0 t]

theorem b1 (c : Dev nD) (t : Fin cfg0.N) (k : Fin 1024) : iblk m c 1 t (ix2 0 k) = m ((c : Thread nD τ).loc main_arg1) (ix1 k) := by
  blk_ext! [iblk, V, idx1 t]

theorem b2 (c : Dev nD) (t : Fin cfg0.N) (k : Fin 1024) (l : Fin 3072) : iblk m c 2 t (ix2 k l) = m ((c : Thread nD τ).loc main_arg2) (ix2 k l) := by
  blk_ext! [iblk, V, idx2 t]

/-- What a point writes back is its block of the result. -/
theorem flushed3_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  obtain ⟨e0, e1⟩ := idx3 t
  have ht : t.val < 32 := t.isLt
  rw [flushed3, out_eq]
  funext j
  have b0' : (j 0).val < 1024 := (j 0).isLt
  have b1' : (j 1).val < 3072 := (j 1).isLt
  have h := tile_apply (iblk m c 0 t) (iblk m c 1 t) (iblk m c 2 t) (j 0) (j 1)
  refine Eq.trans (show _ = k0_pay1 (iblk m c 0 t) (iblk m c 1 t) (iblk m c 2 t) (ix2 (j 0) (j 1)) from congrArg (k0_pay1 (iblk m c 0 t) (iblk m c 1 t) (iblk m c 2 t)) (by
    funext a
    match a with
    | ⟨0, _⟩ => rfl
    | ⟨1, _⟩ => rfl)) (h.trans ?_)
  show _ = G (m ((c : Thread nD τ).loc main_arg0)) (m ((c : Thread nD τ).loc main_arg1)) (m ((c : Thread nD τ).loc main_arg2)) (((cfg0.win 3).blk t).view.emb j)
  unfold G
  have v0 : ((((cfg0.win 3).blk t).view.emb j) 0).val = t.val * 1024 + (j 0).val := by
    show win0_3.index t (0 : Fin 2) * 1024 + 1 * (j 0).val = _; omega
  have v1 : (((cfg0.win 3).blk t).view.emb j) 1 = j 1 := Fin.ext (by
    show win0_3.index t (1 : Fin 2) * 3072 + 1 * (j 1).val = (j 1).val; omega)
  have k0 := fun k => b0 m c t (j 0) k (Fin.ofNat 16 (((((cfg0.win 3).blk t).view.emb j) 0).val / 2048)) (Fin.ofNat 2048 (((((cfg0.win 3).blk t).view.emb j) 0).val % 2048))
    (by show ((((cfg0.win 3).blk t).view.emb j) 0).val / 2048 % 16 = t.val / 2; rw [v0]; omega)
    (by show ((((cfg0.win 3).blk t).view.emb j) 0).val % 2048 % 2048 = t.val % 2 * 1024 + (j 0).val; rw [v0]; omega)
  simp only [k0, b1 m c t, b2 m c t, v1]

theorem covered3 (i : S32768x3072.Idx) : ∃ t : Fin cfg0.N, (cfg0.win 3).flush t = true ∧ i ∈ ((cfg0.win 3).blk t).view.set := by
  have b0' : (i 0).val < 32768 := (i 0).isLt
  have b1' : (i 1).val < 3072 := (i 1).isLt
  have hN : cfg0.N = 32 := rfl
  let t : Fin cfg0.N := ⟨(i 0).val / 1024, by omega⟩
  have ht : t.val = (i 0).val / 1024 := rfl
  refine ⟨t, flush0_3 _, ?_⟩
  obtain ⟨e0, e1⟩ := idx3 t
  let j : S1024x3072.Idx := ix2 (Fin.ofNat 1024 ((i 0).val % 1024)) (i 1)
  have h := ((cfg0.win 3).blk t).view.emb_mem_set j
  have e : ((cfg0.win 3).blk t).view.emb j = i := by
    funext a
    match a with
    | ⟨0, _⟩ => exact Fin.ext (by show win0_3.index t (0 : Fin 2) * 1024 + 1 * ((i 0).val % 1024 % 1024) = (i 0).val; omega)
    | ⟨1, _⟩ => exact Fin.ext (by show win0_3.index t (1 : Fin 2) * 3072 + 1 * (i 1).val = (i 1).val; omega)
  rwa [e] at h

/-- The result array after the run. -/
theorem final3 (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => flushed3_eq m c t) covered3

end Cert.Kernel4Ideal.Proj

namespace Cert.Reference4Ideal.Proj

open Cert.Reference4Ideal Cert.Reference4Ideal.Gen Idealize.ShloMosaic Idealize.ShloMosaic.TcCoe Idealize.SL.Sem

/-- The projection of all tokens. -/
def whole (x : FVec Ideal S16x2048x1024 .f32) (g : FVec Ideal S1024 .f32) (w : FVec Ideal S1024x3072 .f32) : FVec Ideal S16x2048x3072 .f32 :=
  Host.dotGeneral dot_S16x2048x1024_S1024x3072_S16x2048x3072_2_0_01_1_n_n none (Cert.Reference3Ideal.Ffn.rmsA x g) w

theorem whole_apply (x : FVec Ideal S16x2048x1024 .f32) (g : FVec Ideal S1024 .f32) (w : FVec Ideal S1024x3072 .f32) (b : Fin 16) (t : Fin 2048) (j : Fin 3072) :
    whole x g w (ix3 b t j) = Cert.Kernel4Ideal.Proj.row (fun k => x (ix3 b t k)) (fun k => g (ix1 k)) (fun k l => w (ix2 k l)) j := by
  unfold Cert.Kernel4Ideal.Proj.row _root_.Ffn.dot
  simp only [← Cert.Reference3Ideal.Ffn.rmsA_apply]
  pointwise [whole]

theorem ref_eq (x : FVec Ideal S16x2048x1024 .f32) (g : FVec Ideal S1024 .f32) (w : FVec Ideal S1024x3072 .f32) :
    shapeCast S32768x3072 (whole x g w) shapeCasts_S16x2048x3072_S32768x3072 = Cert.Kernel4Ideal.Proj.G x g w := by
  funext i
  have b0' : (i 0).val < 32768 := (i 0).isLt
  refine Eq.trans (shapeCast_apply _ _ _ (ix3 (Fin.ofNat 16 ((i 0).val / 2048)) (Fin.ofNat 2048 ((i 0).val % 2048)) (i 1)) ?_) (whole_apply _ _ _ _ _ _)
  rw [Shape.rowMajor_val_three, Shape.rowMajor_val_two]
  show ((i 0).val / 2048 % 16 * 2048 + (i 0).val % 2048 % 2048) * 3072 + (i 1).val = (i 0).val * 3072 + (i 1).val
  omega

variable (m : (ℓ : Loc nD τ sig) → Buf (Elt Ideal) ℓ) (ρ : Dev nD → PrngReg)

/-- The reference's run, its result as the same array. -/
theorem run : θ_run defs (onTc (τ := τ) (main (F := Ideal))) ⟨m, fun _ => 0, ρ⟩ fun r => ∀ c : Dev nD,
      r.2.mem ((c.tc : Thread nD τ).loc main_v14) = Cert.Kernel4Ideal.Proj.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Cert.Reference4Ideal.Value.run m ρ)

end Cert.Reference4Ideal.Proj

end
-- ==== Proof.Block.lean ====
/-
  What one point of the mixer's grid computes, as functions of the point's blocks.

  A point holds 512 tokens of one sequence: four chunks of 128 tokens, four heads of 128 channels. `coreT`, `outT` and
  `stateT` are the recurrence's part of one head and one chunk, `gmlpT` is the gated part of one group and one chunk;
  the four theorems at the end say that the stores of a point are these, tile by tile.
-/
module

public import proofs.«01_k».proof.Proof.Gen.KernelIdeal.Value
public import Idealize.ShloMosaic.Lib.Pipeline.ValueKit
public import Idealize.ShloMosaic.Lib.Pipeline.ReadBack

@[expose] public section

set_option maxRecDepth 16384
set_option maxHeartbeats 4000000

noncomputable section

namespace Cert.KernelIdeal.Mix

open Idealize.ShloMosaic Idealize.ShloMosaic.TcCoe Cert.KernelIdeal.Gen

variable {F : FTy → Type} [FloatOps F] [Named F]

/-! ## One head and one chunk -/

/-- `x · 1 / (1 + e^(0 - x))`. -/
def siluT (x : FVec F S128x128 .f32) : FVec F S128x128 .f32 :=
  mulf x (divf (broadcast S128x128 (Scalar.ofBits .f32 0x3F800000#32)) (addf (broadcast S128x128 (Scalar.ofBits .f32 0x3F800000#32))
    (exp (subf (broadcast S128x128 (Scalar.ofBits .f32 0x00000000#32)) x))))

/-- The keys, `1 - f`. -/
def keyT (f : FVec F S128x128 .f32) : FVec F S128x128 .f32 := subf (broadcast S128x128 (Scalar.ofBits .f32 0x3F800000#32)) f

/-- The zero the products start from. -/
def zeroT : FVec F S128x128 .f32 := constant S128x128 .f32 0x00000000#32

/-- The diagonal of the scores: each token with itself, under the mask `m`. -/
def diagT (m : Vec F S1x128x128 .f32) (q k : FVec F S128x128 .f32) : FVec F S128x128 .f32 :=
  mulf (shapeCast S128x128 m shapeCasts_S1x128x128_S128x128)
    (matmul dot_S128x128_S128x128_S128x128_1_1_0_0_n_n none (truncf .bf16 q bitsLt_bf16_f32) (truncf .bf16 k bitsLt_bf16_f32) zeroT)

/-- One level of the scores: queries and keys decayed by `2^r` to the level's split, under the mask `m`. -/
def levelT (m : Vec F S1x128x128 .f32) (r : Vec F S128x128 .f32) (q k : FVec F S128x128 .f32) : FVec F S128x128 .f32 :=
  mulf (shapeCast S128x128 m shapeCasts_S1x128x128_S128x128)
    (matmul dot_S128x128_S128x128_S128x128_1_1_0_0_n_n none
      (mulf (truncf .bf16 q bitsLt_bf16_f32) (truncf .bf16 (exp2 r) bitsLt_bf16_f32))
      (mulf (truncf .bf16 k bitsLt_bf16_f32) (truncf .bf16 (exp2 r) bitsLt_bf16_f32)) zeroT)

/-- The scores of a chunk: the diagonal and the seven levels. -/
def scoreT (m : Fin 8 → Vec F S1x128x128 .f32) (r : Fin 9 → Vec F S128x128 .f32) (q k : FVec F S128x128 .f32) : FVec F S128x128 .f32 :=
  addf (addf (addf (addf (addf (addf (addf (diagT (m 0) q k) (levelT (m 1) (r 1) q k)) (levelT (m 2) (r 2) q k)) (levelT (m 3) (r 3) q k))
    (levelT (m 4) (r 4) q k)) (levelT (m 5) (r 5) q k)) (levelT (m 6) (r 6) q k)) (levelT (m 7) (r 7) q k)

/-- The recurrence's outputs in a chunk, from the state before it. -/
def coreT (m : Fin 8 → Vec F S1x128x128 .f32) (r : Fin 9 → Vec F S128x128 .f32) (st q f v : FVec F S128x128 .f32) : FVec F S128x128 .f32 :=
  addf (matmul dot_S128x128_S128x128_S128x128_1_1_0_0_n_n none (truncf .bf16 (mulf (siluT q) (exp2 (r 0))) bitsLt_bf16_f32)
      (truncf .bf16 st bitsLt_bf16_f32) zeroT)
    (matmul dot_S128x128_S128x128_S128x128_1_0_0_1_n_n none (truncf .bf16 (scoreT m r (siluT q) (keyT f)) bitsLt_bf16_f32)
      (truncf .bf16 v bitsLt_bf16_f32) zeroT)

/-- The state after a chunk, from the state before it. -/
def stateT (r : Fin 9 → Vec F S128x128 .f32) (st f v : FVec F S128x128 .f32) : FVec F S128x128 .f32 :=
  addf (mulf st (broadcastTo S128x128 (extractStridedSlice S1x128 ![127, 0] (exp2 (r 0)) slices_S128x128_o127_0_S1x128) broadcasts_S1x128_S128x128))
    (matmul dot_S128x128_S128x128_S128x128_0_0_1_1_n_n none (truncf .bf16 v bitsLt_bf16_f32)
      (truncf .bf16 (mulf (keyT f) (exp2 (r 8))) bitsLt_bf16_f32) zeroT)

/-- The outputs normalised, scaled and gated. -/
def outT (o : FVec F S128x128 .f32) (a : Vec F S1x128 .f32) (g : FVec F S128x128 .f32) : FVec F S128x128 .bf16 :=
  truncf .bf16 (mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
    (broadcastTo S128x128 (shapeCast S1x128 a shapeCasts_S1x128_S1x128) broadcasts_S1x128_S128x128)) (siluT g)) bitsLt_bf16_f32

/-- The gated part of one group and one chunk: the chunk's tokens mixed by the group's lower triangle. -/
def gmlpT (u : FVec F S128x128 .f32) (w : FVec F S128x128 .bf16) (ws : Vec F S1x128x128 .f32) (b : Vec F S128x1 .f32) : FVec F S128x128 .bf16 :=
  truncf .bf16 (mulf u (addf (matmul dot_S128x128_S128x128_S128x128_1_0_0_1_n_n none
      (truncf .bf16 (select (cmpi .sge (iota .tc S128x128 32 [0] iota_S128x128_d0_w32) (iota .tc S128x128 32 [1] iota_S128x128_d1_w32))
        (shapeCast S128x128 ws shapeCasts_S1x128x128_S128x128) (broadcast S128x128 (Scalar.ofBits .f32 0x00000000#32))) bitsLt_bf16_f32) w zeroT)
    (broadcastTo S128x128 (shapeCast S128x1 b shapeCasts_S128x1_S128x1) broadcasts_S128x1_S128x128))) bitsLt_bf16_f32

/-! ## The tiles of a point's blocks -/

theorem inbX (s h : Fin 4) (o : ℕ) (ho : o + 512 ≤ 3072) :
    ∀ a, (![s.val * 128, o + h.val * 128] : Fin 2 → ℕ) a + S128x128.size a ≤ S512x3072.size a
  | ⟨0, _⟩ => by show s.val * 128 + 128 ≤ 512; omega
  | ⟨1, _⟩ => by show o + h.val * 128 + 128 ≤ 3072; omega

theorem inbR (k : Fin 9) (s h : Fin 4) :
    ∀ a, (![k.val * 128, s.val * 512 + h.val * 128] : Fin 2 → ℕ) a + S128x128.size a ≤ S1152x2048.size a
  | ⟨0, _⟩ => by show k.val * 128 + 128 ≤ 1152; omega
  | ⟨1, _⟩ => by show s.val * 512 + h.val * 128 + 128 ≤ 2048; omega

theorem inbO (s : Fin 4) (h : Fin 8) :
    ∀ a, (![s.val * 128, h.val * 128] : Fin 2 → ℕ) a + S128x128.size a ≤ S512x1024.size a
  | ⟨0, _⟩ => by show s.val * 128 + 128 ≤ 512; omega
  | ⟨1, _⟩ => by show h.val * 128 + 128 ≤ 1024; omega

theorem inbM (k : Fin 8) : ∀ a, (![k.val, 0, 0] : Fin 3 → ℕ) a + S1x128x128.size a ≤ S8x128x128.size a
  | ⟨0, _⟩ => by show k.val + 1 ≤ 8; omega
  | ⟨1, _⟩ => by show 0 + 128 ≤ 128; omega
  | ⟨2, _⟩ => by show 0 + 128 ≤ 128; omega

theorem inbS (h : Fin 4) : ∀ a, (![h.val, 0, 0] : Fin 3 → ℕ) a + S1x128x128.size a ≤ S4x128x128.size a
  | ⟨0, _⟩ => by show h.val + 1 ≤ 4; omega
  | ⟨1, _⟩ => by show 0 + 128 ≤ 128; omega
  | ⟨2, _⟩ => by show 0 + 128 ≤ 128; omega

theorem inbA (h : Fin 4) : ∀ a, (![0, h.val * 128] : Fin 2 → ℕ) a + S1x128.size a ≤ S1x512.size a
  | ⟨0, _⟩ => by show 0 + 1 ≤ 1; omega
  | ⟨1, _⟩ => by show h.val * 128 + 128 ≤ 512; omega

theorem inbB (h : Fin 4) : ∀ a, (![0, h.val] : Fin 2 → ℕ) a + S128x1.size a ≤ S128x4.size a
  | ⟨0, _⟩ => by show 0 + 128 ≤ 128; omega
  | ⟨1, _⟩ => by show h.val + 1 ≤ 4; omega

theorem slT (s h : Fin 4) : S512x512.Slices ![s.val * 128, h.val * 128] S128x128 :=
  ⟨rfl, fun a => match a with
    | ⟨0, _⟩ => by show s.val * 128 + 128 ≤ 512; omega
    | ⟨1, _⟩ => by show h.val * 128 + 128 ≤ 512; omega⟩

/-- Chunk `s`, head `h` of the section of the projections that starts at column `o`. -/
def xT (x0 : Vec F S512x3072 .f32) (s h : Fin 4) (o : ℕ) (ho : o + 512 ≤ 3072) : FVec F S128x128 .f32 :=
  View.ld x0 (Rect.unit ![s.val * 128, o + h.val * 128] S128x128.size (inbX s h o ho))

/-- The forget gates of the point. -/
def fB (x0 : Vec F S512x3072 .f32) (x1 : Vec F S3x512 .f32) : FVec F S512x512 .f32 :=
  k0_pay5 (View.ld x1 (Rect.unit ![0, 0] S1x512.size inb_S3x512_S1x512_0_0)) (View.ld x1 (Rect.unit ![1, 0] S1x512.size inb_S3x512_S1x512_1_0))
    (View.ld x1 (Rect.unit ![2, 0] S1x512.size inb_S3x512_S1x512_2_0)) (View.ld x0 (Rect.unit ![0, 512] S512x512.size inb_S512x3072_S512x512_0_512))

/-- The sums of the gates' logarithms, for every level, chunk and head. -/
def rB (x0 : Vec F S512x3072 .f32) (x1 : Vec F S3x512 .f32) (x7 : Vec F S1152x256 .bf16) : Vec F S1152x2048 .f32 :=
  k0_pay10
    (k0_pay7 (View.ld x1 (Rect.unit ![0, 0] S1x512.size inb_S3x512_S1x512_0_0)) (View.ld x1 (Rect.unit ![1, 0] S1x512.size inb_S3x512_S1x512_1_0))
      (View.ld x1 (Rect.unit ![2, 0] S1x512.size inb_S3x512_S1x512_2_0)) (View.ld x0 (Rect.unit ![0, 512] S512x512.size inb_S512x3072_S512x512_0_512)))
    (k0_pay8 (View.ld x1 (Rect.unit ![0, 0] S1x512.size inb_S3x512_S1x512_0_0)) (View.ld x1 (Rect.unit ![1, 0] S1x512.size inb_S3x512_S1x512_1_0))
      (View.ld x1 (Rect.unit ![2, 0] S1x512.size inb_S3x512_S1x512_2_0)) (View.ld x0 (Rect.unit ![0, 512] S512x512.size inb_S512x3072_S512x512_0_512)))
    (k0_pay9 x7)

def fT (x0 : Vec F S512x3072 .f32) (x1 : Vec F S3x512 .f32) (s h : Fin 4) : FVec F S128x128 .f32 :=
  extractStridedSlice S128x128 ![s.val * 128, h.val * 128] (fB x0 x1) (slT s h)

def rT (x0 : Vec F S512x3072 .f32) (x1 : Vec F S3x512 .f32) (x7 : Vec F S1152x256 .bf16) (s h : Fin 4) (k : Fin 9) : Vec F S128x128 .f32 :=
  View.ld (rB x0 x1 x7) (Rect.unit ![k.val * 128, s.val * 512 + h.val * 128] S128x128.size (inbR k s h))

def mT (x8 : Vec F S8x128x128 .f32) (k : Fin 8) : Vec F S1x128x128 .f32 := View.ld x8 (Rect.unit ![k.val, 0, 0] S1x128x128.size (inbM k))

/-- Head `h`'s state before the point. -/
def st0 (xs : Vec F S4x128x128 .f32) (h : Fin 4) : FVec F S128x128 .f32 :=
  shapeCast S128x128 (View.ld xs (Rect.unit ![h.val, 0, 0] S1x128x128.size (inbS h)) : Vec F S1x128x128 .f32) shapeCasts_S1x128x128_S128x128

/-- Head `h`'s state after the chunk `s` of the point, from the state `st` before it. -/
def stepT (x0 : Vec F S512x3072 .f32) (x1 : Vec F S3x512 .f32) (x7 : Vec F S1152x256 .bf16) (h : Fin 4) (s : Fin 4) (st : FVec F S128x128 .f32) : FVec F S128x128 .f32 :=
  stateT (rT x0 x1 x7 s h) st (fT x0 x1 s h) (xT x0 s h 1024 (by decide))

/-- Head `h`'s state before the `n`-th chunk of the point. -/
def stB (x0 : Vec F S512x3072 .f32) (x1 : Vec F S3x512 .f32) (x7 : Vec F S1152x256 .bf16) (xs : Vec F S4x128x128 .f32) (h : Fin 4) : ℕ → FVec F S128x128 .f32
  | 0 => st0 xs h
  | 1 => stepT x0 x1 x7 h 0 (st0 xs h)
  | 2 => stepT x0 x1 x7 h 1 (stepT x0 x1 x7 h 0 (st0 xs h))
  | 3 => stepT x0 x1 x7 h 2 (stepT x0 x1 x7 h 1 (stepT x0 x1 x7 h 0 (st0 xs h)))
  | _ => stepT x0 x1 x7 h 3 (stepT x0 x1 x7 h 2 (stepT x0 x1 x7 h 1 (stepT x0 x1 x7 h 0 (st0 xs h))))

/-- The recurrence's tile of the result. -/
def headB (x0 : Vec F S512x3072 .f32) (x1 : Vec F S3x512 .f32) (x2 : Vec F S1x512 .f32) (x7 : Vec F S1152x256 .bf16) (x8 : Vec F S8x128x128 .f32)
    (xs : Vec F S4x128x128 .f32) (s h : Fin 4) : FVec F S128x128 .bf16 :=
  outT (coreT (mT x8) (rT x0 x1 x7 s h) (stB x0 x1 x7 xs h s.val) (xT x0 s h 0 (by decide)) (fT x0 x1 s h) (xT x0 s h 1024 (by decide)))
    (View.ld x2 (Rect.unit ![0, h.val * 128] S1x128.size (inbA h))) (xT x0 s h 1536 (by decide))

/-- The gated part's tile of the result. -/
def gmlpB (x0 : Vec F S512x3072 .f32) (x3 x4 : Vec F S1x512 .f32) (x5 : Vec F S4x128x128 .f32) (x6 : Vec F S128x4 .f32) (s h : Fin 4) : FVec F S128x128 .bf16 :=
  gmlpT (extractStridedSlice S128x128 ![s.val * 128, h.val * 128]
      (k0_pay345 (View.ld x0 (Rect.unit ![0, 2048] S512x512.size inb_S512x3072_S512x512_0_2048))) (slT s h))
    (extractStridedSlice S128x128 ![s.val * 128, h.val * 128]
      (k0_pay346 (View.ld x0 (Rect.unit ![0, 2560] S512x512.size inb_S512x3072_S512x512_0_2560)) x3 x4) (slT s h))
    (View.ld x5 (Rect.unit ![h.val, 0, 0] S1x128x128.size (inbS h))) (View.ld x6 (Rect.unit ![0, h.val] S128x1.size (inbB h)))

/-- What a point leaves in its block of the result. -/
def outB (x0 : Vec F S512x3072 .f32) (x1 : Vec F S3x512 .f32) (x2 x3 x4 : Vec F S1x512 .f32) (x5 : Vec F S4x128x128 .f32) (x6 : Vec F S128x4 .f32)
    (x7 : Vec F S1152x256 .bf16) (x8 : Vec F S8x128x128 .f32) (xs : Vec F S4x128x128 .f32) (j : S512x1024.Idx) : F .bf16 :=
  if (j 1).val < 512 then
    headB x0 x1 x2 x7 x8 xs (Fin.ofNat 4 ((j 0).val / 128)) (Fin.ofNat 4 ((j 1).val / 128))
      (ValueIdx.ix2 (Fin.ofNat 128 (j 0).val) (Fin.ofNat 128 (j 1).val))
  else
    gmlpB x0 x3 x4 x5 x6 (Fin.ofNat 4 ((j 0).val / 128)) (Fin.ofNat 4 ((j 1).val / 128))
      (ValueIdx.ix2 (Fin.ofNat 128 (j 0).val) (Fin.ofNat 128 (j 1).val))

/-- What a point leaves of the state. -/
def soutB (x0 : Vec F S512x3072 .f32) (x1 : Vec F S3x512 .f32) (x7 : Vec F S1152x256 .bf16) (xs : Vec F S4x128x128 .f32) (j : S4x128x128.Idx) : F .f32 :=
  stB x0 x1 x7 xs (j 0) 4 (ValueIdx.ix2 (j 1) (j 2))

/-! ## The stores of a point -/

theorem ofNat_add_mul (n s x : ℕ) [NeZero n] (hx : x < n) : (Fin.ofNat n (s * n + x)).val = x := by
  show (s * n + x) % n = x
  rw [Nat.add_comm, Nat.add_mul_mod_self_right, Nat.mod_eq_of_lt hx]

theorem head_store {x0 : Vec F S512x3072 .f32} {x1 : Vec F S3x512 .f32} {x2 x3 x4 : Vec F S1x512 .f32} {x5 : Vec F S4x128x128 .f32} {x6 : Vec F S128x4 .f32}
    {x7 : Vec F S1152x256 .bf16} {x8 : Vec F S8x128x128 .f32} {xs : Vec F S4x128x128 .f32} (s h : Fin 4) {w : FVec F S128x128 .bf16} (hw : w = headB x0 x1 x2 x7 x8 xs s h) (x : S128x128.Idx) (y : S512x1024.Idx)
    (h0 : (y 0).val = s.val * 128 + (x 0).val) (h1 : (y 1).val = h.val * 128 + (x 1).val) : w x = outB x0 x1 x2 x3 x4 x5 x6 x7 x8 xs y := by
  have b0 : (x 0).val < 128 := (x 0).isLt
  have b1 : (x 1).val < 128 := (x 1).isLt
  have e0 : Fin.ofNat 4 ((y 0).val / 128) = s := Fin.ext (by show (y 0).val / 128 % 4 = s.val; omega)
  have e1 : Fin.ofNat 4 ((y 1).val / 128) = h := Fin.ext (by show (y 1).val / 128 % 4 = h.val; omega)
  unfold outB
  rw [if_pos (by omega), e0, e1, hw]
  congr 1
  funext a
  match a with
  | ⟨0, _⟩ => exact Fin.ext (by show (x 0).val = (y 0).val % 128; omega)
  | ⟨1, _⟩ => exact Fin.ext (by show (x 1).val = (y 1).val % 128; omega)

theorem gmlp_store {x0 : Vec F S512x3072 .f32} {x1 : Vec F S3x512 .f32} {x2 x3 x4 : Vec F S1x512 .f32} {x5 : Vec F S4x128x128 .f32} {x6 : Vec F S128x4 .f32}
    {x7 : Vec F S1152x256 .bf16} {x8 : Vec F S8x128x128 .f32} {xs : Vec F S4x128x128 .f32} (s h : Fin 4) {w : FVec F S128x128 .bf16} (hw : w = gmlpB x0 x3 x4 x5 x6 s h) (x : S128x128.Idx) (y : S512x1024.Idx)
    (h0 : (y 0).val = s.val * 128 + (x 0).val) (h1 : (y 1).val = (4 + h.val) * 128 + (x 1).val) : w x = outB x0 x1 x2 x3 x4 x5 x6 x7 x8 xs y := by
  have b0 : (x 0).val < 128 := (x 0).isLt
  have b1 : (x 1).val < 128 := (x 1).isLt
  have e0 : Fin.ofNat 4 ((y 0).val / 128) = s := Fin.ext (by show (y 0).val / 128 % 4 = s.val; omega)
  have e1 : Fin.ofNat 4 ((y 1).val / 128) = h := Fin.ext (by show (y 1).val / 128 % 4 = h.val; omega)
  unfold outB
  rw [if_neg (by omega), e0, e1, hw]
  congr 1
  funext a
  match a with
  | ⟨0, _⟩ => exact Fin.ext (by show (x 0).val = (y 0).val % 128; omega)
  | ⟨1, _⟩ => exact Fin.ext (by show (x 1).val = (y 1).val % 128; omega)

theorem state_store {x0 : Vec F S512x3072 .f32} {x1 : Vec F S3x512 .f32} {x7 : Vec F S1152x256 .bf16} {xs : Vec F S4x128x128 .f32} (h : Fin 4) {w : FVec F S128x128 .f32} (hw : w = stB x0 x1 x7 xs h 4) (x : S1x128x128.Idx) (y : S4x128x128.Idx)
    (h0 : (y 0).val = h.val + (x 0).val) (h1 : (y 1).val = (x 1).val) (h2 : (y 2).val = (x 2).val) :
    shapeCast S1x128x128 w shapeCasts_S128x128_S1x128x128 x = soutB x0 x1 x7 xs y := by
  have b0 : (x 0).val < 1 := (x 0).isLt
  have e0 : y 0 = h := Fin.ext (by omega)
  unfold soutB
  rw [e0, hw]
  refine shapeCast_apply _ _ _ _ ?_
  rw [Shape.rowMajor_val_two, Shape.rowMajor_val_three]
  show (y 1).val * 128 + (y 2).val = ((x 0).val * 128 + (x 1).val) * 128 + (x 2).val
  omega

theorem st_at (h : ℕ) (inb : ∀ a, (![h, 0, 0] : Fin 3 → ℕ) a + S1x128x128.size a ≤ S4x128x128.size a) (x : S1x128x128.Idx) :
    ((Rect.unit (![h, 0, 0] : Fin 3 → ℕ) S1x128x128.size inb : Rect S4x128x128).emb x 0).val = h + (x 0).val
    ∧ ((Rect.unit (![h, 0, 0] : Fin 3 → ℕ) S1x128x128.size inb : Rect S4x128x128).emb x 1).val = (x 1).val
    ∧ ((Rect.unit (![h, 0, 0] : Fin 3 → ℕ) S1x128x128.size inb : Rect S4x128x128).emb x 2).val = (x 2).val := by
  refine ⟨?_, ?_, ?_⟩
  · show h + 1 * (x 0).val = _
    omega
  · show 0 + 1 * (x 1).val = _
    omega
  · show 0 + 1 * (x 2).val = _
    omega

/-- The state a point leaves, in case A. -/
theorem sout_A  (c : Dev nD) (i : grid0.Coords) (arg2 : Memref sig .tc .vmem S512x3072 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S1152x256 .bf16) (harg9 : arg9.IsWhole) (arg10 : Memref sig .tc .vmem S8x128x128 .f32) (harg10 : arg10.IsWhole) (arg11 : Memref sig .tc .vmem S512x1024 .bf16) (harg11 : arg11.IsWhole) (arg12 : Memref sig .tc .vmem S4x128x128 .f32) (harg12 : arg12.IsWhole) (arg13 : Memref sig .tc .vmem S1152x2048 .f32) (harg13 : arg13.IsWhole) (hc0 : cond0_0 i)
    (x0 : Vec F S512x3072 .f32) (x1 : Vec F S3x512 .f32) (x2 : Vec F S1x512 .f32) (x3 : Vec F S1x512 .f32) (x4 : Vec F S1x512 .f32) (x5 : Vec F S4x128x128 .f32) (x6 : Vec F S128x4 .f32) (x7 : Vec F S1152x256 .bf16) (x8 : Vec F S8x128x128 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = soutB x0 x1 x7 (k0_pay4 : Vec F S4x128x128 .f32) := by
  funext y
  frame_open
  simp (disch := decide) only [↓ View.readCov_skip, ↓ View.readCov_cons_toLoadRect, ↓ View.readCov_fill]
  frame_out
  have e2 : View.read (Elt F) arg2.view (harg2.unread x0) = x0 := harg2.read_unread x0
  have e3 : View.read (Elt F) arg3.view (harg3.unread x1) = x1 := harg3.read_unread x1
  rw [e2, e3]
  refine View.canon_append_of_piecesOf (Val := Elt F) (e := .f32) (soutB x0 x1 x7 (k0_pay4 : Vec F S4x128x128 .f32)) [_] [_, _, _, _] ⟨?_, ?_, ?_, ?_, trivial⟩ y ?_
  · intro x
    exact state_store 3 rfl x _ (st_at 3 (inbS 3) x).1 (st_at 3 (inbS 3) x).2.1 (st_at 3 (inbS 3) x).2.2
  · intro x
    exact state_store 2 rfl x _ (st_at 2 (inbS 2) x).1 (st_at 2 (inbS 2) x).2.1 (st_at 2 (inbS 2) x).2.2
  · intro x
    exact state_store 1 rfl x _ (st_at 1 (inbS 1) x).1 (st_at 1 (inbS 1) x).2.1 (st_at 1 (inbS 1) x).2.2
  · intro x
    exact state_store 0 rfl x _ (st_at 0 (inbS 0) x).1 (st_at 0 (inbS 0) x).2.1 (st_at 0 (inbS 0) x).2.2
  · exact View.cover_of_tiledL (s := S4x128x128) _ S1x128x128.size (by rfl) y

/-- The block a point leaves, in case A. -/
theorem out_A  (c : Dev nD) (i : grid0.Coords) (arg2 : Memref sig .tc .vmem S512x3072 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S1152x256 .bf16) (harg9 : arg9.IsWhole) (arg10 : Memref sig .tc .vmem S8x128x128 .f32) (harg10 : arg10.IsWhole) (arg11 : Memref sig .tc .vmem S512x1024 .bf16) (harg11 : arg11.IsWhole) (arg12 : Memref sig .tc .vmem S4x128x128 .f32) (harg12 : arg12.IsWhole) (arg13 : Memref sig .tc .vmem S1152x2048 .f32) (harg13 : arg13.IsWhole) (hc0 : cond0_0 i)
    (x0 : Vec F S512x3072 .f32) (x1 : Vec F S3x512 .f32) (x2 : Vec F S1x512 .f32) (x3 : Vec F S1x512 .f32) (x4 : Vec F S1x512 .f32) (x5 : Vec F S4x128x128 .f32) (x6 : Vec F S128x4 .f32) (x7 : Vec F S1152x256 .bf16) (x8 : Vec F S8x128x128 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = outB x0 x1 x2 x3 x4 x5 x6 x7 x8 (k0_pay4 : Vec F S4x128x128 .f32) := by
  funext y
  frame_open
  simp (disch := decide) only [↓ View.readCov_skip, ↓ View.readCov_cons_toLoadRect, ↓ View.readCov_fill]
  frame_out
  have e2 : View.read (Elt F) arg2.view (harg2.unread x0) = x0 := harg2.read_unread x0
  have e3 : View.read (Elt F) arg3.view (harg3.unread x1) = x1 := harg3.read_unread x1
  rw [e2, e3]
  generalize (k0_pay4 : Vec F S4x128x128 .f32) = xs
  canon_tiles x h
  · exact gmlp_store 3 3 rfl x y h0 h1
  · exact gmlp_store 2 3 rfl x y h0 h1
  · exact gmlp_store 1 3 rfl x y h0 h1
  · exact gmlp_store 0 3 rfl x y (h0.trans (Nat.zero_add _).symm) h1
  · exact gmlp_store 3 2 rfl x y h0 h1
  · exact gmlp_store 2 2 rfl x y h0 h1
  · exact gmlp_store 1 2 rfl x y h0 h1
  · exact gmlp_store 0 2 rfl x y (h0.trans (Nat.zero_add _).symm) h1
  · exact gmlp_store 3 1 rfl x y h0 h1
  · exact gmlp_store 2 1 rfl x y h0 h1
  · exact gmlp_store 1 1 rfl x y h0 h1
  · exact gmlp_store 0 1 rfl x y (h0.trans (Nat.zero_add _).symm) h1
  · exact gmlp_store 3 0 rfl x y h0 h1
  · exact gmlp_store 2 0 rfl x y h0 h1
  · exact gmlp_store 1 0 rfl x y h0 h1
  · exact gmlp_store 0 0 rfl x y (h0.trans (Nat.zero_add _).symm) h1
  · exact head_store 3 3 rfl x y h0 h1
  · exact head_store 2 3 rfl x y h0 h1
  · exact head_store 1 3 rfl x y h0 h1
  · exact head_store 0 3 rfl x y (h0.trans (Nat.zero_add _).symm) h1
  · exact head_store 3 2 rfl x y h0 h1
  · exact head_store 2 2 rfl x y h0 h1
  · exact head_store 1 2 rfl x y h0 h1
  · exact head_store 0 2 rfl x y (h0.trans (Nat.zero_add _).symm) h1
  · exact head_store 3 1 rfl x y h0 h1
  · exact head_store 2 1 rfl x y h0 h1
  · exact head_store 1 1 rfl x y h0 h1
  · exact head_store 0 1 rfl x y (h0.trans (Nat.zero_add _).symm) h1
  · exact head_store 3 0 rfl x y h0 (h1.trans (Nat.zero_add _).symm)
  · exact head_store 2 0 rfl x y h0 (h1.trans (Nat.zero_add _).symm)
  · exact head_store 1 0 rfl x y h0 (h1.trans (Nat.zero_add _).symm)
  · exact head_store 0 0 rfl x y (h0.trans (Nat.zero_add _).symm) (h1.trans (Nat.zero_add _).symm)

/-- The state a point leaves, in case B. -/
theorem sout_B  (c : Dev nD) (i : grid0.Coords) (arg2 : Memref sig .tc .vmem S512x3072 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S1152x256 .bf16) (harg9 : arg9.IsWhole) (arg10 : Memref sig .tc .vmem S8x128x128 .f32) (harg10 : arg10.IsWhole) (arg11 : Memref sig .tc .vmem S512x1024 .bf16) (harg11 : arg11.IsWhole) (arg12 : Memref sig .tc .vmem S4x128x128 .f32) (harg12 : arg12.IsWhole) (arg13 : Memref sig .tc .vmem S1152x2048 .f32) (harg13 : arg13.IsWhole) (hc0 : ¬cond0_0 i)
    (x0 : Vec F S512x3072 .f32) (x1 : Vec F S3x512 .f32) (x2 : Vec F S1x512 .f32) (x3 : Vec F S1x512 .f32) (x4 : Vec F S1x512 .f32) (x5 : Vec F S4x128x128 .f32) (x6 : Vec F S128x4 .f32) (x7 : Vec F S1152x256 .bf16) (x8 : Vec F S8x128x128 .f32) (xs0 : Vec F S4x128x128 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = soutB x0 x1 x7 xs0 := by
  funext y
  frame_open
  simp (disch := decide) only [↓ View.readCov_skip, ↓ View.readCov_cons_toLoadRect, ↓ View.readCov_fill]
  frame_out
  have e2 : View.read (Elt F) arg2.view (harg2.unread x0) = x0 := harg2.read_unread x0
  have e3 : View.read (Elt F) arg3.view (harg3.unread x1) = x1 := harg3.read_unread x1
  rw [e2, e3]
  canon_tiles x h
  · exact state_store 3 rfl x y h0 h1 h2
  · exact state_store 2 rfl x y h0 h1 h2
  · exact state_store 1 rfl x y h0 h1 h2
  · exact state_store 0 rfl x y (h0.trans (Nat.zero_add _).symm) h1 h2

/-- The block a point leaves, in case B. -/
theorem out_B  (c : Dev nD) (i : grid0.Coords) (arg2 : Memref sig .tc .vmem S512x3072 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S1152x256 .bf16) (harg9 : arg9.IsWhole) (arg10 : Memref sig .tc .vmem S8x128x128 .f32) (harg10 : arg10.IsWhole) (arg11 : Memref sig .tc .vmem S512x1024 .bf16) (harg11 : arg11.IsWhole) (arg12 : Memref sig .tc .vmem S4x128x128 .f32) (harg12 : arg12.IsWhole) (arg13 : Memref sig .tc .vmem S1152x2048 .f32) (harg13 : arg13.IsWhole) (hc0 : ¬cond0_0 i)
    (x0 : Vec F S512x3072 .f32) (x1 : Vec F S3x512 .f32) (x2 : Vec F S1x512 .f32) (x3 : Vec F S1x512 .f32) (x4 : Vec F S1x512 .f32) (x5 : Vec F S4x128x128 .f32) (x6 : Vec F S128x4 .f32) (x7 : Vec F S1152x256 .bf16) (x8 : Vec F S8x128x128 .f32) (xs0 : Vec F S4x128x128 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = outB x0 x1 x2 x3 x4 x5 x6 x7 x8 xs0 := by
  funext y
  frame_open
  simp (disch := decide) only [↓ View.readCov_skip, ↓ View.readCov_cons_toLoadRect, ↓ View.readCov_fill]
  frame_out
  have e2 : View.read (Elt F) arg2.view (harg2.unread x0) = x0 := harg2.read_unread x0
  have e3 : View.read (Elt F) arg3.view (harg3.unread x1) = x1 := harg3.read_unread x1
  rw [e2, e3]
  canon_tiles x h
  · exact gmlp_store 3 3 rfl x y h0 h1
  · exact gmlp_store 2 3 rfl x y h0 h1
  · exact gmlp_store 1 3 rfl x y h0 h1
  · exact gmlp_store 0 3 rfl x y (h0.trans (Nat.zero_add _).symm) h1
  · exact gmlp_store 3 2 rfl x y h0 h1
  · exact gmlp_store 2 2 rfl x y h0 h1
  · exact gmlp_store 1 2 rfl x y h0 h1
  · exact gmlp_store 0 2 rfl x y (h0.trans (Nat.zero_add _).symm) h1
  · exact gmlp_store 3 1 rfl x y h0 h1
  · exact gmlp_store 2 1 rfl x y h0 h1
  · exact gmlp_store 1 1 rfl x y h0 h1
  · exact gmlp_store 0 1 rfl x y (h0.trans (Nat.zero_add _).symm) h1
  · exact gmlp_store 3 0 rfl x y h0 h1
  · exact gmlp_store 2 0 rfl x y h0 h1
  · exact gmlp_store 1 0 rfl x y h0 h1
  · exact gmlp_store 0 0 rfl x y (h0.trans (Nat.zero_add _).symm) h1
  · exact head_store 3 3 rfl x y h0 h1
  · exact head_store 2 3 rfl x y h0 h1
  · exact head_store 1 3 rfl x y h0 h1
  · exact head_store 0 3 rfl x y (h0.trans (Nat.zero_add _).symm) h1
  · exact head_store 3 2 rfl x y h0 h1
  · exact head_store 2 2 rfl x y h0 h1
  · exact head_store 1 2 rfl x y h0 h1
  · exact head_store 0 2 rfl x y (h0.trans (Nat.zero_add _).symm) h1
  · exact head_store 3 1 rfl x y h0 h1
  · exact head_store 2 1 rfl x y h0 h1
  · exact head_store 1 1 rfl x y h0 h1
  · exact head_store 0 1 rfl x y (h0.trans (Nat.zero_add _).symm) h1
  · exact head_store 3 0 rfl x y h0 (h1.trans (Nat.zero_add _).symm)
  · exact head_store 2 0 rfl x y h0 (h1.trans (Nat.zero_add _).symm)
  · exact head_store 1 0 rfl x y h0 (h1.trans (Nat.zero_add _).symm)
  · exact head_store 0 0 rfl x y (h0.trans (Nat.zero_add _).symm) (h1.trans (Nat.zero_add _).symm)

end Cert.KernelIdeal.Mix

end
-- ==== Proof.Decay.lean ====
/-
  The arithmetic of one chunk of the recurrence over the real numbers: the block decomposition of the decay
  products, the scores of a chunk, and the closed form of the token recurrence over a chunk.
-/
module

public import Mathlib.Analysis.SpecialFunctions.Pow.Real
public import Mathlib.Algebra.BigOperators.Fin

@[expose] public section

noncomputable section

namespace Mixer

open Finset

/-- The product of `f j` over the positions `j` of a chunk at which `p` holds. -/
def prodOn (p : ℕ → Prop) [DecidablePred p] (f : Fin 128 → ℝ) : ℝ := ∏ j : Fin 128, if p j.val then f j else 1

theorem prodOn_congr {p q : ℕ → Prop} [DecidablePred p] [DecidablePred q] (f : Fin 128 → ℝ)
    (h : ∀ j, j < 128 → (p j ↔ q j)) : prodOn p f = prodOn q f :=
  prod_congr rfl fun j _ => by simp only [h j.val j.isLt]

/-- Two exclusive sets of positions multiply to their union. -/
theorem prodOn_mul {p q r : ℕ → Prop} [DecidablePred p] [DecidablePred q] [DecidablePred r] (f : Fin 128 → ℝ)
    (h : ∀ j, j < 128 → (r j ↔ p j ∨ q j)) (hx : ∀ j, j < 128 → ¬(p j ∧ q j)) :
    prodOn p f * prodOn q f = prodOn r f := by
  unfold prodOn
  rw [← prod_mul_distrib]
  refine prod_congr rfl fun j _ => ?_
  have h1 := h j.val j.isLt
  have h2 := hx j.val j.isLt
  by_cases hp : p j.val <;> by_cases hq : q j.val <;> simp_all

/-- Two to the power of a masked sum of base-two logarithms is the masked product. -/
theorem two_rpow_sum (p : ℕ → Prop) [DecidablePred p] (f : Fin 128 → ℝ) (hf : ∀ j, 0 < f j) :
    (2 : ℝ) ^ (∑ j : Fin 128, (if p j.val then (1 : ℝ) else 0) * (Real.log (f j) * (1 / Real.log 2))) = prodOn p f := by
  have h2 : (0 : ℝ) < 2 := by norm_num
  have hl : Real.log 2 ≠ 0 := (Real.log_pos (by norm_num)).ne'
  rw [Real.rpow_sum_of_pos h2]
  refine prod_congr rfl fun j _ => ?_
  split_ifs
  · rw [one_mul, Real.rpow_def_of_pos h2,
      show Real.log 2 * (Real.log (f j) * (1 / Real.log 2)) = Real.log (f j) by field_simp, Real.exp_log (hf j)]
  · rw [zero_mul, Real.rpow_zero]

/-- The positions the row `t` of a level sums: from the middle of its block up to `t`, or past `t` up to the middle. -/
def rng (bs half t j : ℕ) : Prop :=
  if half ≤ t % bs then t / bs * bs + half ≤ j ∧ j ≤ t else t < j ∧ j < t / bs * bs + half

instance (bs half t : ℕ) : DecidablePred (rng bs half t) := fun _ => by unfold rng; infer_instance

/-- The pairs a level scores: one block, `t` in its upper half, `s` in its lower half. -/
def pair (bs half t s : ℕ) : Prop := t / bs = s / bs ∧ half ≤ t % bs ∧ s % bs < half

instance (bs half t s : ℕ) : Decidable (pair bs half t s) := by unfold pair; infer_instance

/-- The decay from position `s` to position `t`. -/
abbrev dec (s t : ℕ) (f : Fin 128 → ℝ) : ℝ := prodOn (fun j => s < j ∧ j ≤ t) f

theorem pair_prod {bs half t s : ℕ} (h : pair bs half t s) (f : Fin 128 → ℝ) :
    prodOn (rng bs half t) f * prodOn (rng bs half s) f = dec s t f := by
  obtain ⟨h1, h2, h3⟩ := h
  have ht := Nat.div_add_mod' t bs
  have hs := Nat.div_add_mod' s bs
  rw [← h1] at hs
  refine prodOn_mul f (fun j hj => ?_) (fun j hj => ?_) <;> unfold rng <;>
    rw [if_pos h2, if_neg (by omega), ← h1] <;> omega

/-- A score of the chunk: the decayed products of a query and the keys up to it. -/
def score (q κ f : Fin 128 → Fin 128 → ℝ) (t s : Fin 128) : ℝ :=
  if s ≤ t then ∑ k, q t k * κ s k * dec s.val t.val (fun j => f j k) else 0

/-- What one level adds to the scores. -/
def level (bs half : ℕ) (q κ f : Fin 128 → Fin 128 → ℝ) (t s : Fin 128) : ℝ :=
  (if pair bs half t.val s.val then (1 : ℝ) else 0) *
    ∑ k, (q t k * prodOn (rng bs half t.val) (fun j => f j k)) * (κ s k * prodOn (rng bs half s.val) (fun j => f j k))

theorem level_eq (bs half : ℕ) (q κ f : Fin 128 → Fin 128 → ℝ) (t s : Fin 128) :
    level bs half q κ f t s = if pair bs half t.val s.val then ∑ k, q t k * κ s k * dec s.val t.val (fun j => f j k) else 0 := by
  unfold level
  split_ifs with h
  · rw [one_mul]
    refine sum_congr rfl fun k _ => ?_
    rw [← pair_prod h]; ring
  · rw [zero_mul]

theorem pair_split {A B : Prop} [Decidable A] [Decidable B] (x : ℝ) (hBA : B → A)
    {P : Prop} [Decidable P] (hP : P ↔ A ∧ ¬B) : (if P then x else 0) = (if A then x else 0) - (if B then x else 0) := by
  by_cases hA : A <;> by_cases hB : B <;> simp_all

/-- The diagonal and the seven levels together are the scores. -/
theorem levels_eq (q κ f : Fin 128 → Fin 128 → ℝ) (t s : Fin 128) :
    (((((((if t.val = s.val then (1 : ℝ) else 0) * ∑ k, q t k * κ s k) + level 2 1 q κ f t s) + level 4 2 q κ f t s)
      + level 8 4 q κ f t s) + level 16 8 q κ f t s) + level 32 16 q κ f t s) + level 64 32 q κ f t s
      + level 128 64 q κ f t s = score q κ f t s := by
  have ht := t.isLt
  have hs := s.isLt
  simp only [level_eq]
  unfold score
  rcases lt_trichotomy t s with h | h | h
  · have h' : t.val < s.val := h
    have hn : ∀ bs half, ¬pair bs half t.val s.val := fun bs half hp => by
      obtain ⟨h1, h2, h3⟩ := hp
      have e1 := Nat.div_add_mod' t.val bs
      have e2 := Nat.div_add_mod' s.val bs
      rw [← h1] at e2
      omega
    simp only [if_neg (hn _ _), if_neg (not_le.mpr h), if_neg (show ¬t.val = s.val by omega)]
    norm_num
  · subst h
    have hn : ∀ bs half, ¬pair bs half t.val t.val := fun bs half hp => by
      obtain ⟨h1, h2, h3⟩ := hp
      omega
    simp only [if_neg (hn _ _), le_refl, if_true, one_mul, add_zero]
    refine sum_congr rfl fun k _ => ?_
    have : dec t.val t.val (fun j => f j k) = 1 := by
      refine prod_eq_one fun j _ => ?_
      rw [if_neg (by omega)]
    rw [this, mul_one]
  · have h' : s.val < t.val := h
    rw [if_pos h.le, if_neg (show ¬t.val = s.val by omega)]
    set x := ∑ k, q t k * κ s k * dec s.val t.val (fun j => f j k)
    have hP : ∀ half, 0 < half → (pair (2 * half) half t.val s.val ↔
        t.val / (2 * half) = s.val / (2 * half) ∧ ¬(t.val / half = s.val / half)) := fun half hh => by
      have e1 : t.val / (2 * half) = t.val / half / 2 := by rw [mul_comm, Nat.div_div_eq_div_mul]
      have e2 : s.val / (2 * half) = s.val / half / 2 := by rw [mul_comm, Nat.div_div_eq_div_mul]
      have m1 : t.val % (2 * half) = t.val % half + half * (t.val / half % 2) := by rw [mul_comm, Nat.mod_mul]
      have m2 : s.val % (2 * half) = s.val % half + half * (s.val / half % 2) := by rw [mul_comm, Nat.mod_mul]
      have l1 := Nat.mod_lt t.val hh
      have l2 := Nat.mod_lt s.val hh
      have hd : s.val / half ≤ t.val / half := Nat.div_le_div_right h'.le
      unfold pair
      rw [e1, e2, m1, m2]
      rcases Nat.mod_two_eq_zero_or_one (t.val / half) with c1 | c1 <;>
        rcases Nat.mod_two_eq_zero_or_one (s.val / half) with c2 | c2 <;> rw [c1, c2] <;> omega
    have hm : ∀ half, t.val / half = s.val / half → t.val / (2 * half) = s.val / (2 * half) := fun half hh => by
      rw [mul_comm, ← Nat.div_div_eq_div_mul, ← Nat.div_div_eq_div_mul, hh]
    have key : ∀ half, 0 < half → (if pair (2 * half) half t.val s.val then x else 0)
        = (if t.val / (2 * half) = s.val / (2 * half) then x else 0) - (if t.val / half = s.val / half then x else 0) :=
      fun half hh => pair_split x (hm half) (hP half hh)
    have k1 := key 1 (by norm_num); have k2 := key 2 (by norm_num); have k3 := key 4 (by norm_num)
    have k4 := key 8 (by norm_num); have k5 := key 16 (by norm_num); have k6 := key 32 (by norm_num)
    have k7 := key 64 (by norm_num)
    norm_num only at k1 k2 k3 k4 k5 k6 k7
    rw [k1, k2, k3, k4, k5, k6, k7, if_pos (show t.val / 128 = s.val / 128 by omega),
      if_neg (show ¬t.val / 1 = s.val / 1 by omega)]
    ring

/-- The token recurrence of one entry of the state: `S (t+1) = f t · S t + κ t · v t`. -/
def state (f κ v : ℕ → ℝ) (S0 : ℝ) : ℕ → ℝ
  | 0 => S0
  | t + 1 => f t * state f κ v S0 t + κ t * v t

theorem state_add (f κ v : ℕ → ℝ) (S0 : ℝ) (a : ℕ) : ∀ t, state f κ v S0 (a + t) =
    state (fun j => f (a + j)) (fun j => κ (a + j)) (fun j => v (a + j)) (state f κ v S0 a) t
  | 0 => rfl
  | t + 1 => by
    show f (a + t) * state f κ v S0 (a + t) + _ = _
    rw [state_add f κ v S0 a t]; rfl

/-- The closed form of the recurrence after the positions up to `t` of a chunk. -/
theorem state_closed (f κ v : ℕ → ℝ) (S0 : ℝ) : ∀ t, t < 128 → state f κ v S0 (t + 1) =
    S0 * prodOn (fun j => j ≤ t) (fun j => f j.val) +
      ∑ s : Fin 128, (if s.val ≤ t then κ s.val * dec s.val t (fun j => f j.val) else 0) * v s.val := by
  have hsplit : ∀ (g : ℕ → ℝ) (t : ℕ), t < 128 →
      ∀ (p : ℕ → Prop) [DecidablePred p], (∀ j, p j → j < t) → prodOn (fun j => p j ∨ j = t) (fun j => g j.val)
        = g t * prodOn p (fun j => g j.val) := fun g t ht p _ hp => by
    rw [← prodOn_mul (p := fun j => j = t) (q := p) (r := fun j => p j ∨ j = t) (fun j => g j.val)
      (fun j _ => or_comm) (fun j _ hj => by have := hp j hj.2; omega)]
    congr 1
    unfold prodOn
    rw [prod_eq_single ⟨t, ht⟩]
    · simp
    · intro b _ hb
      rw [if_neg]
      intro h; exact hb (Fin.ext h)
    · simp
  intro t
  induction t with
  | zero =>
    intro ht
    show f 0 * S0 + κ 0 * v 0 = _
    have h1 : prodOn (fun j => j ≤ 0) (fun j => f j.val) = f 0 := by
      have := hsplit f 0 ht (fun _ => False) (fun _ h => h.elim)
      rw [prodOn_congr (q := fun j => False ∨ j = 0) _ (fun j _ => by simp)]
      rw [this]; simp [prodOn]
    rw [h1, sum_eq_single ⟨0, by norm_num⟩]
    · have : dec 0 0 (fun j => f j.val) = 1 := prod_eq_one fun j _ => by rw [if_neg (by omega)]
      simp only [le_refl, if_true, this]; ring
    · intro b _ hb
      rw [if_neg, zero_mul]
      intro h; exact hb (Fin.ext (by simpa using h))
    · simp
  | succ t ih =>
    intro ht
    show f (t + 1) * state f κ v S0 (t + 1) + κ (t + 1) * v (t + 1) = _
    rw [ih (by omega)]
    have h1 : prodOn (fun j => j ≤ t + 1) (fun j => f j.val) = f (t + 1) * prodOn (fun j => j ≤ t) (fun j => f j.val) := by
      rw [← hsplit f (t + 1) ht _ (fun j h => by omega)]
      exact prodOn_congr _ fun j _ => by omega
    have h2 : ∀ s : Fin 128, s.val ≤ t → dec s.val (t + 1) (fun j => f j.val) = f (t + 1) * dec s.val t (fun j => f j.val) := by
      intro s hs
      show prodOn _ _ = _ * prodOn _ _
      rw [← hsplit f (t + 1) ht _ (fun j h => by omega)]
      exact prodOn_congr _ fun j _ => by omega
    rw [h1]
    have h3 : ∑ s : Fin 128, (if s.val ≤ t + 1 then κ s.val * dec s.val (t + 1) (fun j => f j.val) else 0) * v s.val
        = ∑ s : Fin 128, (f (t + 1) * ((if s.val ≤ t then κ s.val * dec s.val t (fun j => f j.val) else 0) * v s.val)
          + if s = ⟨t + 1, ht⟩ then κ (t + 1) * v (t + 1) else 0) := by
      refine sum_congr rfl fun s _ => ?_
      by_cases c : s.val ≤ t
      · rw [if_pos (by omega), if_pos c, h2 s c, if_neg (fun h => by rw [h] at c; simp at c)]; ring
      · rw [if_neg c]
        by_cases e : s.val = t + 1
        · have : dec (t + 1) (t + 1) (fun j => f j.val) = 1 := prod_eq_one fun j _ => by rw [if_neg (by omega)]
          rw [if_pos (by omega), if_pos (Fin.ext e), e, this]; ring
        · rw [if_neg (by omega), if_neg (fun h => e (by rw [h]))]; ring
    rw [h3, sum_add_distrib, ← mul_sum, sum_ite_eq' univ (⟨t + 1, ht⟩ : Fin 128)]
    simp only [mem_univ, if_true]
    ring

/-- What a chunk reads out of the state: the carried state decayed to the token, and the chunk's own scores. -/
theorem chunk_out (q κ f v : ℕ → Fin 128 → ℝ) (S0 : Fin 128 → Fin 128 → ℝ) (t n : Fin 128) :
    ∑ k, q t.val k * state (fun j => f j k) (fun j => κ j k) (fun j => v j n) (S0 k n) (t.val + 1)
      = (∑ k, (q t.val k * prodOn (fun j => j ≤ t.val) (fun j => f j.val k)) * S0 k n)
        + ∑ s : Fin 128, score (fun t k => q t.val k) (fun t k => κ t.val k) (fun t k => f t.val k) t s * v s.val n := by
  have h : ∀ s : Fin 128, score (fun t k => q t.val k) (fun t k => κ t.val k) (fun t k => f t.val k) t s * v s.val n
      = ∑ k, q t.val k * ((if s.val ≤ t.val then κ s.val k * dec s.val t.val (fun j => f j.val k) else 0) * v s.val n) := by
    intro s
    unfold score
    by_cases c : s.val ≤ t.val
    · rw [if_pos (show s ≤ t from c), sum_mul]
      refine sum_congr rfl fun k _ => ?_
      rw [if_pos c]; ring
    · rw [if_neg (show ¬s ≤ t from c), zero_mul]
      symm
      refine sum_eq_zero fun k _ => ?_
      rw [if_neg c]; ring
  rw [sum_congr rfl fun s _ => h s, sum_comm, ← sum_add_distrib]
  refine sum_congr rfl fun k _ => ?_
  rw [state_closed _ _ _ _ t.val t.isLt, ← mul_sum]
  ring

/-- What a chunk leaves in the state. -/
theorem chunk_state (κ f v : ℕ → ℝ) (S0 : ℝ) :
    state f κ v S0 128 = S0 * prodOn (fun j => j ≤ 127) (fun j => f j.val)
      + ∑ s : Fin 128, v s.val * (κ s.val * prodOn (fun j => s.val < j) (fun j => f j.val)) := by
  rw [state_closed f κ v S0 127 (by norm_num)]
  congr 1
  refine sum_congr rfl fun s _ => ?_
  rw [if_pos (by omega)]
  have : dec s.val 127 (fun j => f j.val) = prodOn (fun j => s.val < j) (fun j => f j.val) :=
    prodOn_congr _ fun j hj => by omega
  rw [this]; ring

end Mixer
-- ==== Proof.lean ====
/-
  The proof of `Cert.Claim`: the frame of each program (the mixer, the two feed-forward calls, the norm and projection), the
  mixer's named constant, and of the three calls `Kernel2`, `Kernel3`, `Kernel4` that kernel and reference compute the same
  array over the extended reals. The mathematics is in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.FfnArr2
public import proofs.«01_k».proof.Proof.FfnArr3
public import proofs.«01_k».proof.Proof.Proj4
public import proofs.«01_k».proof.Proof.Block
public import proofs.«01_k».proof.Proof.Decay

@[expose] public section

noncomputable section

namespace Cert.Proof

open Idealize.ShloMosaic Idealize.ShloMosaic.TcCoe Idealize.SL.Sem

/-- The one named constant of the mixer, `log2e`, is `1 / ln 2`, and its word is the float nearest to that. -/
theorem named : Cert.preserves_Kernel_KernelIdeal :=
  IdealRules.named_const.statement Cert.KernelIdeal.κ "log2e" .f32 0x3FB8AA3B#32 (((Real.log 2)⁻¹ : ℝ) : EReal) rfl

/-- The norm and projection: kernel and reference leave the same array, `Proj.G` of the arguments. -/
theorem algebraic4 : Cert.algebraic_Kernel4Ideal_Reference4Ideal (hKernel4Ideal := Cert.Kernel4Ideal.Gen.facts) (hReference4Ideal := Cert.Reference4Ideal.Gen.facts) := by
  intro m g m' g' _ h
  refine ⟨fun c => Cert.Kernel4Ideal.Proj.G (m ((c.tc : Thread _ _).loc Cert.Kernel4Ideal.main_arg0)) (m ((c.tc : Thread _ _).loc Cert.Kernel4Ideal.main_arg1)) (m ((c.tc : Thread _ _).loc Cert.Kernel4Ideal.main_arg2)),
    (θ_run _ _ _).mono (fun r k c => ⟨(k c).1.trans (Cert.Kernel4Ideal.Proj.final3 m c), (k c).2⟩) (Cert.Kernel4Ideal.Value.run_blocks m g),
    (θ_run _ _ _).mono (fun r k c => ⟨(k c).1.trans ?_, (k c).2⟩) (Cert.Reference4Ideal.Proj.run m' g')⟩
  rw [(h c).1, (h c).2.1, (h c).2.2]

/-- The output projection and feed-forward part of layer 0, stored in the order of the dilated attention: kernel and reference
    leave the same array, `Ffn.G` of the arguments. -/
theorem algebraic3 : Cert.algebraic_Kernel3Ideal_Reference3Ideal (hKernel3Ideal := Cert.Kernel3Ideal.Gen.facts) (hReference3Ideal := Cert.Reference3Ideal.Gen.facts) := by
  intro m g m' g' _ h
  refine ⟨fun c => Cert.Kernel3Ideal.Ffn.G (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)),
    (θ_run _ _ _).mono (fun r k c => ⟨(k c).1.trans (Cert.Kernel3Ideal.Ffn.final8 m c), (k c).2⟩) (Cert.Kernel3Ideal.Value.run_blocks m g),
    (θ_run _ _ _).mono (fun r k c => ⟨(k c).1.trans ((Cert.Kernel3Ideal.Ffn.ref_eq m' c).trans ?_), (k c).2⟩) (Cert.Reference3Ideal.Value.run m' g')⟩
  rw [(h c).1, (h c).2.1, (h c).2.2.1, (h c).2.2.2.1, (h c).2.2.2.2.1, (h c).2.2.2.2.2.1, (h c).2.2.2.2.2.2.1, (h c).2.2.2.2.2.2.2]

/-- The output projection and feed-forward part of layer 1, from the order of the dilated attention back to the order of time:
    kernel and reference leave the same array, `Ffn.G` of the arguments. -/
theorem algebraic2 : Cert.algebraic_Kernel2Ideal_Reference2Ideal (hKernel2Ideal := Cert.Kernel2Ideal.Gen.facts) (hReference2Ideal := Cert.Reference2Ideal.Gen.facts) := by
  intro m g m' g' _ h
  refine ⟨fun c => Cert.Kernel2Ideal.Ffn.G (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)) (m ((c.tc : Thread _ _).loc Cert.Kernel2Ideal.main_arg6)) (m ((c.tc : Thread _ _).loc Cert.Kernel2Ideal.main_arg7)),
    (θ_run _ _ _).mono (fun r k c => ⟨(k c).1.trans (Cert.Kernel2Ideal.Ffn.final8 m c), (k c).2⟩) (Cert.Kernel2Ideal.Value.run_blocks m g),
    (θ_run _ _ _).mono (fun r k c => ⟨(k c).1.trans ((Cert.Kernel2Ideal.Ffn.ref_eq m' c).trans ?_), (k c).2⟩) (Cert.Reference2Ideal.Value.run m' g')⟩
  rw [(h c).1, (h c).2.1, (h c).2.2.1, (h c).2.2.2.1, (h c).2.2.2.2.1, (h c).2.2.2.2.2.1, (h c).2.2.2.2.2.2.1, (h c).2.2.2.2.2.2.2]

/-- All claims, behind the facts that the programs state. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    fun m g _ => Cert.Kernel.Gen.frame m g,
    fun m g _ => Cert.KernelIdeal.Gen.frame m g,
    fun m g _ => (θ_run Cert.ReferenceIdeal.defs _ _).mono (fun r h => ⟨fun c => (h c).2, sem_eq_zero_of_no_sems (by decide) r.2⟩) (Cert.ReferenceIdeal.Value.run (F := Ideal) m g),
    fun m g _ => Cert.Kernel2.Gen.frame m g,
    fun m g _ => Cert.Kernel2Ideal.Gen.frame m g,
    fun m g _ => (θ_run Cert.Reference2Ideal.defs _ _).mono (fun r h => ⟨fun c => (h c).2, sem_eq_zero_of_no_sems (by decide) r.2⟩) (Cert.Reference2Ideal.Value.run (F := Ideal) m g),
    fun m g _ => Cert.Kernel3.Gen.frame m g,
    fun m g _ => Cert.Kernel3Ideal.Gen.frame m g,
    fun m g _ => (θ_run Cert.Reference3Ideal.defs _ _).mono (fun r h => ⟨fun c => (h c).2, sem_eq_zero_of_no_sems (by decide) r.2⟩) (Cert.Reference3Ideal.Value.run (F := Ideal) m g),
    fun m g _ => Cert.Kernel4.Gen.frame m g,
    fun m g _ => Cert.Kernel4Ideal.Gen.frame m g,
    fun m g _ => (θ_run Cert.Reference4Ideal.defs _ _).mono (fun r h => ⟨fun c => (h c).2, sem_eq_zero_of_no_sems (by decide) r.2⟩) (Cert.Reference4Ideal.Value.run (F := Ideal) m g),
    named, trivial, algebraic2, trivial, algebraic3, trivial, algebraic4⟩

end Cert.Proof

end
